-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clear_cut [hPre_clear_cut : Cert.Pre_clear_cut.Facts] (m : (ℓ : Loc Cert.KernelIdeal.nD Cert.KernelIdeal.τ Cert.KernelIdeal.sig) → Buf (Elt Ideal) ℓ) : Prop :=
  ∀ c : Dev Cert.KernelIdeal.nD,
    (Cert.Pre_clear_cut.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clear_cut [hPre_clear_cut : Cert.Pre_clear_cut.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clear_cut.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_clear_cut [hKernelIdeal : Cert.KernelIdeal.Facts] [hPre_clear_cut : Cert.Pre_clear_cut.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clear_cut m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_clear_cut [hReferenceIdeal : Cert.ReferenceIdeal.Facts] [hPre_clear_cut : Cert.Pre_clear_cut.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clear_cut m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_clear_cut [hKernelIdeal : Cert.KernelIdeal.Facts] [hReferenceIdeal : Cert.ReferenceIdeal.Facts] [hPre_clear_cut : Cert.Pre_clear_cut.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clear_cut m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_clear_cut : Cert.Pre_clear_cut.Facts),
    quiescent_Kernel (hKernel := hKernel)
    ∧ quiescent_KernelIdeal (hKernelIdeal := hKernelIdeal)
    ∧ quiescent_KernelIdeal_pre_clear_cut (hKernelIdeal := hKernelIdeal) (hPre_clear_cut := hPre_clear_cut)
    ∧ quiescent_ReferenceIdeal (hReferenceIdeal := hReferenceIdeal)
    ∧ quiescent_ReferenceIdeal_pre_clear_cut (hReferenceIdeal := hReferenceIdeal) (hPre_clear_cut := hPre_clear_cut)
    ∧ preserves_Kernel_KernelIdeal
    ∧ algebraic_KernelIdeal_ReferenceIdeal_pre_clear_cut (hKernelIdeal := hKernelIdeal) (hReferenceIdeal := hReferenceIdeal) (hPre_clear_cut := hPre_clear_cut)
-- ==== Pre_clear_cut.lean ====
abbrev S16384x1000 : Shape := ⟨2, ![16384, 1000]⟩
abbrev S16384 : Shape := ⟨1, ![16384]⟩
abbrev S16384x2 : Shape := ⟨2, ![16384, 2]⟩
abbrev S_ : Shape := ⟨0, ![]⟩
abbrev S16384x1 : Shape := ⟨2, ![16384, 1]⟩

class Facts : Prop where
  sliceFits_S16384x1000_S16384x2 : S16384x1000.Slices (fun _ => 0) S16384x2
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  slices_S16384x2_S16384x1_0_0 : S16384x2.Slices ![0, 0] S16384x1
  shapeCasts_S16384x1_S16384 : S16384x1.ShapeCasts S16384
  slices_S16384x2_S16384x1_0_1 : S16384x2.Slices ![0, 1] S16384x1
  reducesTo_S16384_S_d0 : S16384.ReducesTo [0] S_
  h_S_ : 0 < S_.numel
  reducesTo_S16384x1000_S16384_d1 : S16384x1000.ReducesTo [1] S16384
  bcast_S_S_ : S_.BroadcastsInDim S_ (![] : Fin 0 → Fin S_.rank)
  reduceWindows_S16384_S16384_w16384s1p16383_0 : S16384.ReduceWindows (![16384] : Fin 1 → Nat) ![1] ![16383] ![0] S16384
  bcast_S_S16384x1000 : S_.BroadcastsInDim S16384x1000 (![] : Fin 0 → Fin S16384x1000.rank)
  reducesTo_S16384x1000_S_d0_1 : S16384x1000.ReducesTo [0, 1] S_
  gather_S16384x1000_S16384x2_S16384_n_01_n_n_01_1_11_wf : GatherDims.WF S16384x1000 S16384x2 S16384 [] [0, 1] [] [0, 1] [] 1 ![1, 1]

variable [Facts]

variable {F : FTy → Type} [FloatOps F]
def gather_S16384x1000_S16384x2_S16384_n_01_n_n_01_1_11 : GatherDims S16384x1000 S16384x2 S16384 where
  offsetDims := []
  collapsedSliceDims := [0, 1]
  operandBatchingDims := []
  startIndicesBatchingDims := []
  startIndexMap := [0, 1]
  indexVectorDim := 1
  sliceSizes := ![1, 1]
  wf := gather_S16384x1000_S16384x2_S16384_n_01_n_n_01_1_11_wf
def comparator_f32_d0 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_where {F : FTy → Type} [FloatOps F] (arg0 : IVec S16384 1) (arg1 : FVec F S16384 .f32) (arg2 : FVec F S16384 .f32) : FVec F S16384 .f32 :=
  let v0 : FVec F S16384 .f32 := select arg0 arg1 arg2
  v0

def fn_relu {F : FTy → Type} [FloatOps F] (arg0 : FVec F S16384 .f32) : FVec F S16384 .f32 :=
  let cst : FVec F S_ .f32 := constant S_ .f32 0x00000000#32
  let v0 : FVec F S16384 .f32 := broadcastInDim S16384 ![] bcast_S_S16384 cst
  let v1 : FVec F S16384 .f32 := maximumf arg0 v0
  v1

def fn_sort {F : FTy → Type} [FloatOps F] (arg0 : FVec F S16384 .f32) : FVec F S16384 .f32 :=
  let v0 : FVec F S16384 .f32 := (fun x => Host.sort S16384 0 comparator_f32_d0 x) arg0
  v0

def fn_cumsum_0 {F : FTy → Type} [FloatOps F] (arg0 : FVec F S16384 .f32) : FVec F S16384 .f32 :=
  let cst : FVec F S_ .f32 := constant S_ .f32 0x00000000#32
  let v0 : FVec F S_ .f32 := broadcastInDim S_ ![] bcast_S_S_ cst
  let v1 : FVec F S16384 .f32 := (fun x v => Host.reduceWindowAdd ![16384] ![1] ![16383] ![0] x v reduceWindows_S16384_S16384_w16384s1p16383_0 h_S_) arg0 v0
  v1

def fn_cumsum {F : FTy → Type} [FloatOps F] (arg0 : FVec F S16384 .f32) : FVec F S16384 .f32 :=
  let v0 : FVec F S16384 .f32 := fn_cumsum_0 (F := F) arg0
  v0

def fn_where_1 {F : FTy → Type} [FloatOps F] (arg0 : IVec S16384 1) (arg1 : FVec F S_ .f32) (arg2 : FVec F S16384 .f32) : FVec F S16384 .f32 :=
  let v0 : FVec F S_ .f32 := id arg1
  let v1 : FVec F S16384 .f32 := broadcastInDim S16384 ![] bcast_S_S16384 v0
  let v2 : FVec F S16384 .f32 := select arg0 v1 arg2
  v2

def fn_where_2 {F : FTy → Type} [FloatOps F] (arg0 : IVec S16384 1) (arg1 : FVec F S16384 .f32) (arg2 : FVec F S_ .f32) : FVec F S16384 .f32 :=
  let v0 : FVec F S_ .f32 := id arg2
  let v1 : FVec F S16384 .f32 := broadcastInDim S16384 ![] bcast_S_S16384 v0
  let v2 : FVec F S16384 .f32 := select arg0 arg1 v1
  v2

def fn_where_3 {F : FTy → Type} [FloatOps F] (arg0 : IVec S16384 1) (arg1 : IVec S16384 1) (arg2 : IVec S_ 1) : IVec S16384 1 :=
  let v0 : IVec S16384 1 := broadcastInDim S16384 ![] bcast_S_S16384 arg2
  let v1 : IVec S16384 1 := select arg0 arg1 v0
  v1

def fn_part5 {F : FTy → Type} [FloatOps F] (main_arg1 : IVec S16384 32) (main_v71 : FVec F S16384 .f32) (main_v80 : FVec F S_ .f32) (main_v87 : IVec S16384 1) (main_v88 : FVec F S16384x1000 .f32) (main_v89 : FVec F S16384x1000 .f32) : IVec S_ 1 :=
  let main_v90 : IVec S16384x1000 1 := cmpf .olt main_v88 main_v89
  let main_c_26 : IVec S_ 1 := constantI S_ 1 1#1
  let main_v91 : IVec S_ 1 := (fun x v => Host.reduce IntOp.andi x v reducesTo_S16384x1000_S_d0_1 h_S_) main_v90 main_c_26
  let main_c_27 : IVec S_ 32 := constantI S_ 32 0#32
  let main_v92 : IVec S16384 32 := broadcastInDim S16384 ![] bcast_S_S16384 main_c_27
  let main_v93 : IVec S16384 1 := cmpi .sge main_arg1 main_v92
  let main_c_28 : IVec S_ 32 := constantI S_ 32 1000#32
  let main_v94 : IVec S16384 32 := broadcastInDim S16384 ![] bcast_S_S16384 main_c_28
  let main_v95 : IVec S16384 1 := cmpi .slt main_arg1 main_v94
  let main_v96 : IVec S16384 1 := andi main_v93 main_v95
  let main_c_29 : IVec S_ 1 := constantI S_ 1 1#1
  let main_v97 : IVec S_ 1 := (fun x v => Host.reduce IntOp.andi x v reducesTo_S16384_S_d0 h_S_) main_v96 main_c_29
  let main_v98 : IVec S_ 1 := andi main_v91 main_v97
  let main_v99 : FVec F S16384 .f32 := broadcastInDim S16384 ![] bcast_S_S16384 main_v80
  let main_v100 : IVec S16384 1 := cmpf .oeq main_v71 main_v99
  let main_c_30 : IVec S_ 1 := constantI S_ 1 1#1
  let main_v101 : IVec S16384 1 := fn_where_3 (F := F) main_v87 main_v100 main_c_30
  let main_c_31 : IVec S_ 1 := constantI S_ 1 1#1
  let main_v102 : IVec S_ 1 := (fun x v => Host.reduce IntOp.andi x v reducesTo_S16384_S_d0 h_S_) main_v101 main_c_31
  let main_v103 : IVec S_ 1 := andi main_v98 main_v102
  main_v103

def fn_part4 {F : FTy → Type} [FloatOps F] (main_arg0 : FVec F S16384x1000 .f32) (main_arg1 : IVec S16384 32) (main_v57 : FVec F S_ .f32) (main_v71 : FVec F S16384 .f32) (main_v72 : FVec F S16384 .f32) : IVec S_ 1 :=
  let main_v73 : FVec F S16384 .f32 := sitofp .f32 (iotaInDim S16384 32 0)
  let main_v74 : FVec F S16384 .f32 := broadcastInDim S16384 ![] bcast_S_S16384 main_v57
  let main_v75 : FVec F S16384 .f32 := subf main_v74 main_v73
  let main_v76 : IVec S16384 1 := cmpf .ole main_v72 main_v75
  let main_cst_19 : FVec F S_ .f32 := constant S_ .f32 0x7F800000#32
  let main_v77 : FVec F S16384 .f32 := fn_where_1 (F := F) main_v76 main_cst_19 main_v71
  let main_cst_20 : FVec F S_ .f32 := constant S_ .f32 0x7F800000#32
  let main_v78 : FVec F S_ .f32 := (fun x v => Host.reduce FloatOps.minimumf x v reducesTo_S16384_S_d0 h_S_) main_v77 main_cst_20
  let main_cst_21 : FVec F S_ .f32 := constant S_ .f32 0xFF800000#32
  let main_v79 : FVec F S16384 .f32 := fn_where_2 (F := F) main_v76 main_v71 main_cst_21
  let main_cst_22 : FVec F S_ .f32 := constant S_ .f32 0xFF800000#32
  let main_v80 : FVec F S_ .f32 := (fun x v => Host.reduce FloatOps.maximumf x v reducesTo_S16384_S_d0 h_S_) main_v79 main_cst_22
  let main_v81 : FVec F S16384 .f32 := broadcastInDim S16384 ![] bcast_S_S16384 main_v78
  let main_v82 : FVec F S16384 .f32 := subf main_v81 main_v71
  let main_cst_23 : FVec F S_ .f32 := constant S_ .f32 0x34000000#32
  let main_v83 : FVec F S_ .f32 := mulf main_cst_23 main_v78
  let main_cst_24 : FVec F S_ .f32 := constant S_ .f32 0x00800000#32
  let main_v84 : FVec F S_ .f32 := addf main_v83 main_cst_24
  let main_v85 : FVec F S16384 .f32 := broadcastInDim S16384 ![] bcast_S_S16384 main_v84
  let main_v86 : IVec S16384 1 := cmpf .olt main_v82 main_v85
  let main_v87 : IVec S16384 1 := andi main_v76 main_v86
  let main_v88 : FVec F S16384x1000 .f32 := Host.absf main_arg0
  let main_cst_25 : FVec F S_ .f32 := constant S_ .f32 0x7F800000#32
  let main_v89 : FVec F S16384x1000 .f32 := broadcastInDim S16384x1000 ![] bcast_S_S16384x1000 main_cst_25
  fn_part5 (F := F) main_arg1 main_v71 main_v80 main_v87 main_v88 main_v89

def fn_part3 {F : FTy → Type} [FloatOps F] (main_arg0 : FVec F S16384x1000 .f32) (main_arg1 : IVec S16384 32) (main_v14 : FVec F S16384 .f32) (main_v51 : FVec F S16384 .f32) (main_v54 : FVec F S16384 .f32) (main_cst_12 : FVec F S_ .f32) : IVec S_ 1 :=
  let main_v55 : FVec F S_ .f32 := (fun x v => Host.reduceAdd x v reducesTo_S16384_S_d0 h_S_) main_v54 main_cst_12
  let main_cst_13 : FVec F S_ .f32 := constant S_ .f32 0x3F666666#32
  let main_v56 : FVec F S_ .f32 := mulf main_cst_13 main_v55
  let main_cst_14 : FVec F S_ .f32 := constant S_ .f32 0x464F5C29#32
  let main_v57 : FVec F S_ .f32 := addf main_cst_14 main_v56
  let main_cst_15 : FVec F S_ .f32 := constant S_ .f32 0x3F800000#32
  let main_v58 : FVec F S16384 .f32 := broadcastInDim S16384 ![] bcast_S_S16384 main_cst_15
  let main_v59 : FVec F S16384 .f32 := subf main_v58 main_v51
  let main_v60 : FVec F S16384 .f32 := fn_relu (F := F) main_v59
  let main_v61 : FVec F S16384x1000 .f32 := Host.exp main_arg0
  let main_cst_16 : FVec F S_ .f32 := constant S_ .f32 0x00000000#32
  let main_v62 : FVec F S16384 .f32 := (fun x v => Host.reduceAdd x v reducesTo_S16384x1000_S16384_d1 h_S_) main_v61 main_cst_16
  let main_v63 : FVec F S16384 .f32 := Host.log main_v62
  let main_cst_17 : FVec F S_ .f32 := constant S_ .f32 0x3F800000#32
  let main_v64 : FVec F S16384 .f32 := broadcastInDim S16384 ![] bcast_S_S16384 main_cst_17
  let main_v65 : FVec F S16384 .f32 := subf main_v64 main_v14
  let main_v66 : FVec F S16384 .f32 := addf main_v65 main_v63
  let main_v67 : FVec F S16384 .f32 := fn_relu (F := F) main_v66
  let main_cst_18 : FVec F S_ .f32 := constant S_ .f32 0x00000000#32
  let main_v68 : FVec F S16384 .f32 := broadcastInDim S16384 ![] bcast_S_S16384 main_cst_18
  let main_v69 : IVec S16384 1 := cmpf .oge main_v51 main_v68
  let main_v70 : FVec F S16384 .f32 := fn_where (F := F) main_v69 main_v60 main_v67
  let main_v71 : FVec F S16384 .f32 := fn_sort (F := F) main_v70
  let main_v72 : FVec F S16384 .f32 := fn_cumsum (F := F) main_v71
  fn_part4 (F := F) main_arg0 main_arg1 main_v57 main_v71 main_v72

def fn_part2 {F : FTy → Type} [FloatOps F] (main_arg0 : FVec F S16384x1000 .f32) (main_arg1 : IVec S16384 32) (main_v0 : IVec S16384 32) (main_v14 : FVec F S16384 .f32) (main_v31 : FVec F S16384 .f32) (main_v33 : IVec S16384 32) (main_v35 : IVec S16384 1) (main_c_8 : IVec S_ 32) : IVec S_ 1 :=
  let main_v36 : IVec S16384 32 := broadcastInDim S16384 ![] bcast_S_S16384 main_c_8
  let main_v37 : IVec S16384 32 := addi main_v0 main_v36
  let main_v38 : IVec S16384 32 := select main_v35 main_v37 main_v0
  let main_c_9 : IVec S_ 32 := constantI S_ 32 0#32
  let main_v39 : IVec S16384 32 := broadcastInDim S16384 ![] bcast_S_S16384 main_c_9
  let main_v40 : IVec S16384 1 := cmpi .slt main_v33 main_v39
  let main_c_10 : IVec S_ 32 := constantI S_ 32 1000#32
  let main_v41 : IVec S16384 32 := broadcastInDim S16384 ![] bcast_S_S16384 main_c_10
  let main_v42 : IVec S16384 32 := addi main_v33 main_v41
  let main_v43 : IVec S16384 32 := select main_v40 main_v42 main_v33
  let main_v44 : IVec S16384x1 32 := broadcastInDim S16384x1 ![0] bcast_S16384_S16384x1_0 main_v38
  let main_v45 : IVec S16384x1 32 := broadcastInDim S16384x1 ![0] bcast_S16384_S16384x1_0 main_v43
  let main_v46 : IVec S16384x2 32 := (fun a b => concatenate S16384x2 1 [⟨S16384x1, a⟩, ⟨S16384x1, b⟩] concatenates_S16384x1_S16384x1_S16384x2_d1) main_v44 main_v45
  let main_v47 : FVec F S16384 .f32 := (fun x i => Host.gather gather_S16384x1000_S16384x2_S16384_n_01_n_n_01_1_11 x i) main_arg0 main_v46
  let main_v48 : FVec F S16384 .f32 := subf main_v14 main_v47
  let main_cst : FVec F S_ .f32 := constant S_ .f32 0x00000000#32
  let main_v49 : FVec F S16384 .f32 := broadcastInDim S16384 ![] bcast_S_S16384 main_cst
  let main_v50 : IVec S16384 1 := cmpf .ogt main_v31 main_v49
  let main_v51 : FVec F S16384 .f32 := fn_where (F := F) main_v50 main_v31 main_v48
  let main_cst_11 : FVec F S_ .f32 := constant S_ .f32 0x00000000#32
  let main_v52 : FVec F S16384 .f32 := broadcastInDim S16384 ![] bcast_S_S16384 main_cst_11
  let main_v53 : IVec S16384 1 := cmpf .olt main_v51 main_v52
  let main_v54 : FVec F S16384 .f32 := uitofp .f32 main_v53
  let main_cst_12 : FVec F S_ .f32 := constant S_ .f32 0x00000000#32
  fn_part3 (F := F) main_arg0 main_arg1 main_v14 main_v51 main_v54 main_cst_12

def fn_part1 {F : FTy → Type} [FloatOps F] (main_arg0 : FVec F S16384x1000 .f32) (main_arg1 : IVec S16384 32) (main_v0 : IVec S16384 32) (main_indices : IVec S16384x2 32) (main_v14 : FVec F S16384 .f32) (main_v16 : IVec S16384 32) (main_c_3 : IVec S_ 32) : IVec S_ 1 :=
  let main_v17 : IVec S16384 32 := broadcastInDim S16384 ![] bcast_S_S16384 main_c_3
  let main_v18 : IVec S16384 1 := cmpi .slt main_v0 main_v17
  let main_c_4 : IVec S_ 32 := constantI S_ 32 16384#32
  let main_v19 : IVec S16384 32 := broadcastInDim S16384 ![] bcast_S_S16384 main_c_4
  let main_v20 : IVec S16384 32 := addi main_v0 main_v19
  let main_v21 : IVec S16384 32 := select main_v18 main_v20 main_v0
  let main_c_5 : IVec S_ 32 := constantI S_ 32 0#32
  let main_v22 : IVec S16384 32 := broadcastInDim S16384 ![] bcast_S_S16384 main_c_5
  let main_v23 : IVec S16384 1 := cmpi .slt main_v16 main_v22
  let main_c_6 : IVec S_ 32 := constantI S_ 32 1000#32
  let main_v24 : IVec S16384 32 := broadcastInDim S16384 ![] bcast_S_S16384 main_c_6
  let main_v25 : IVec S16384 32 := addi main_v16 main_v24
  let main_v26 : IVec S16384 32 := select main_v23 main_v25 main_v16
  let main_v27 : IVec S16384x1 32 := broadcastInDim S16384x1 ![0] bcast_S16384_S16384x1_0 main_v21
  let main_v28 : IVec S16384x1 32 := broadcastInDim S16384x1 ![0] bcast_S16384_S16384x1_0 main_v26
  let main_v29 : IVec S16384x2 32 := (fun a b => concatenate S16384x2 1 [⟨S16384x1, a⟩, ⟨S16384x1, b⟩] concatenates_S16384x1_S16384x1_S16384x2_d1) main_v27 main_v28
  let main_v30 : FVec F S16384 .f32 := (fun x i => Host.gather gather_S16384x1000_S16384x2_S16384_n_01_n_n_01_1_11 x i) main_arg0 main_v29
  let main_v31 : FVec F S16384 .f32 := subf main_v14 main_v30
  let main_v32 : IVec S16384x1 32 := (extractStridedSlice S16384x1 ![0, 1] · slices_S16384x2_S16384x1_0_1) main_indices
  let main_v33 : IVec S16384 32 := shapeCast S16384 main_v32 shapeCasts_S16384x1_S16384
  let main_c_7 : IVec S_ 32 := constantI S_ 32 0#32
  let main_v34 : IVec S16384 32 := broadcastInDim S16384 ![] bcast_S_S16384 main_c_7
  let main_v35 : IVec S16384 1 := cmpi .slt main_v0 main_v34
  let main_c_8 : IVec S_ 32 := constantI S_ 32 16384#32
  fn_part2 (F := F) main_arg0 main_arg1 main_v0 main_v14 main_v31 main_v33 main_v35 main_c_8

def fn {F : FTy → Type} [FloatOps F] (main_arg0 : FVec F S16384x1000 .f32) (main_arg1 : IVec S16384 32) : IVec S_ 1 :=
  let main_v0 : IVec S16384 32 := iotaInDim S16384 32 0
  let main_values : FVec F S16384x2 .f32 := (fun x => (Host.topK S16384x2 1 (FloatOps.cmpfTotal .gt) x sliceFits_S16384x1000_S16384x2).1) main_arg0
  let main_indices : IVec S16384x2 32 := (fun x => (Host.topK S16384x2 1 (FloatOps.cmpfTotal .gt) x sliceFits_S16384x1000_S16384x2).2) main_arg0
  let main_c : IVec S_ 32 := constantI S_ 32 0#32
  let main_v1 : IVec S16384 32 := broadcastInDim S16384 ![] bcast_S_S16384 main_c
  let main_v2 : IVec S16384 1 := cmpi .slt main_v0 main_v1
  let main_c_0 : IVec S_ 32 := constantI S_ 32 16384#32
  let main_v3 : IVec S16384 32 := broadcastInDim S16384 ![] bcast_S_S16384 main_c_0
  let main_v4 : IVec S16384 32 := addi main_v0 main_v3
  let main_v5 : IVec S16384 32 := select main_v2 main_v4 main_v0
  let main_c_1 : IVec S_ 32 := constantI S_ 32 0#32
  let main_v6 : IVec S16384 32 := broadcastInDim S16384 ![] bcast_S_S16384 main_c_1
  let main_v7 : IVec S16384 1 := cmpi .slt main_arg1 main_v6
  let main_c_2 : IVec S_ 32 := constantI S_ 32 1000#32
  let main_v8 : IVec S16384 32 := broadcastInDim S16384 ![] bcast_S_S16384 main_c_2
  let main_v9 : IVec S16384 32 := addi main_arg1 main_v8
  let main_v10 : IVec S16384 32 := select main_v7 main_v9 main_arg1
  let main_v11 : IVec S16384x1 32 := broadcastInDim S16384x1 ![0] bcast_S16384_S16384x1_0 main_v5
  let main_v12 : IVec S16384x1 32 := broadcastInDim S16384x1 ![0] bcast_S16384_S16384x1_0 main_v10
  let main_v13 : IVec S16384x2 32 := (fun a b => concatenate S16384x2 1 [⟨S16384x1, a⟩, ⟨S16384x1, b⟩] concatenates_S16384x1_S16384x1_S16384x2_d1) main_v11 main_v12
  let main_v14 : FVec F S16384 .f32 := (fun x i => Host.gather gather_S16384x1000_S16384x2_S16384_n_01_n_n_01_1_11 x i) main_arg0 main_v13
  let main_v15 : IVec S16384x1 32 := (extractStridedSlice S16384x1 ![0, 0] · slices_S16384x2_S16384x1_0_0) main_indices
  let main_v16 : IVec S16384 32 := shapeCast S16384 main_v15 shapeCasts_S16384x1_S16384
  let main_c_3 : IVec S_ 32 := constantI S_ 32 0#32
  fn_part1 (F := F) main_arg0 main_arg1 main_v0 main_indices main_v14 main_v16 main_c_3
-- ==== Kernel.lean ====
abbrev S16384x1000 : Shape := ⟨2, ![16384, 1000]⟩
abbrev S16384 : Shape := ⟨1, ![16384]⟩
abbrev S1000x16384 : Shape := ⟨2, ![1000, 16384]⟩
abbrev S1x16384 : Shape := ⟨2, ![1, 16384]⟩
abbrev S1x1 : Shape := ⟨2, ![1, 1]⟩
abbrev S1000x2048 : Shape := ⟨2, ![1000, 2048]⟩
abbrev S1x2048 : Shape := ⟨2, ![1, 2048]⟩
abbrev S8x2048 : Shape := ⟨2, ![8, 2048]⟩
abbrev S2048 : Shape := ⟨1, ![2048]⟩
abbrev S1x8x2048 : Shape := ⟨3, ![1, 8, 2048]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S1000x16384, .f32⟩
  | .hbm, ⟨3, _⟩ => ⟨S16384, .f32⟩
  | .hbm, ⟨4, _⟩ => ⟨S1x16384, .f32⟩
  | .hbm, ⟨5, _⟩ => ⟨S1x1, .f32⟩
  | .hbm, ⟨6, _⟩ => ⟨S_, .f32⟩
  | .local _ .vmem, ⟨0, _⟩ => ⟨S1000x2048, .f32⟩
  | .local _ .vmem, ⟨1, _⟩ => ⟨S1000x2048, .f32⟩
  | .local _ .vmem, ⟨2, _⟩ => ⟨S1x2048, .f32⟩
  | .local _ .vmem, ⟨3, _⟩ => ⟨S1x2048, .f32⟩
  | .local _ .vmem, ⟨4, _⟩ => ⟨S1x1, .f32⟩
  | .local _ .vmem, ⟨5, _⟩ => ⟨S8x2048, .f32⟩
  | .local _ .vmem, ⟨6, _⟩ => ⟨S8x2048, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v47 : Index := Scalar.indexCast arg0
  let c0_15 : Index := 0#32
  ![v47.toNat, 0]
def k0_cond1 (i : grid0.Coords) : BitVec 1 :=
  let arg0 : BitVec 32 := BitVec.ofNat 32 (i 0).val
  let c7_i32 : BitVec 32 := 7#32
  let v55 : BitVec 1 := Scalar.cmpi .eq arg0 c7_i32
  let v56 : BitVec 32 := Scalar.extui v55
  let c0_i32 : BitVec 32 := 0#32
  let v57 : BitVec 1 := Scalar.cmpi .ne v56 c0_i32
  v57

@[reducible] def k0_t1_loop : Scf.Loop 32 :=
  let c0_i32_27 : BitVec 32 := 0#32
  let c31_i32 : BitVec 32 := 31#32
  let v73 : BitVec 32 := Scalar.addi c0_i32_27 c31_i32
  let c1_i32 : BitVec 32 := 1#32
  ⟨c0_i32_27, v73, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16384x1000 : Shape := ⟨2, ![16384, 1000]⟩
abbrev S16384 : Shape := ⟨1, ![16384]⟩
abbrev S16384x2 : Shape := ⟨2, ![16384, 2]⟩
abbrev S_ : Shape := ⟨0, ![]⟩
abbrev S16384x1 : Shape := ⟨2, ![16384, 1]⟩

abbrev nBuf : Space → Nat
  | .hbm => 130
  | .vmem => 0
  | .smem => 0
  | _ => 0

abbrev hbmTy0_0 (i : Nat) : BufTy := match i % 128 with
  | 0 => ⟨S16384x1000, .f32⟩
  | 1 => ⟨S16384, .i32⟩
  | 2 => ⟨S16384, .i32⟩
  | 3 => ⟨S16384x2, .f32⟩
  | 4 => ⟨S16384x2, .i32⟩
  | 5 => ⟨S_, .i32⟩
  | 6 => ⟨S16384, .i32⟩
  | 7 => ⟨S16384, .i1⟩
  | 8 => ⟨S_, .i32⟩
  | 9 => ⟨S16384, .i32⟩
  | 10 => ⟨S16384, .i32⟩
  | 11 => ⟨S16384, .i32⟩
  | 12 => ⟨S_, .i32⟩
  | 13 => ⟨S16384, .i32⟩
  | 14 => ⟨S16384, .i1⟩
  | 15 => ⟨S_, .i32⟩
  | 16 => ⟨S16384, .i32⟩
  | 17 => ⟨S16384, .i32⟩
  | 18 => ⟨S16384, .i32⟩
  | 19 => ⟨S16384x1, .i32⟩
  | 20 => ⟨S16384x1, .i32⟩
  | 21 => ⟨S16384x2, .i32⟩
  | 22 => ⟨S16384, .f32⟩
  | 23 => ⟨S16384x1, .i32⟩
  | 24 => ⟨S16384, .i32⟩
  | 25 => ⟨S_, .i32⟩
  | 26 => ⟨S16384, .i32⟩
  | 27 => ⟨S16384, .i1⟩
  | 28 => ⟨S_, .i32⟩
  | 29 => ⟨S16384, .i32⟩
  | 30 => ⟨S16384, .i32⟩
  | 31 => ⟨S16384, .i32⟩
  | 32 => ⟨S_, .i32⟩
  | 33 => ⟨S16384, .i32⟩
  | 34 => ⟨S16384, .i1⟩
  | 35 => ⟨S_, .i32⟩
  | 36 => ⟨S16384, .i32⟩
  | 37 => ⟨S16384, .i32⟩
  | 38 => ⟨S16384, .i32⟩
  | 39 => ⟨S16384x1, .i32⟩
  | 40 => ⟨S16384x1, .i32⟩
  | 41 => ⟨S16384x2, .i32⟩
  | 42 => ⟨S16384, .f32⟩
  | 43 => ⟨S16384, .f32⟩
  | 44 => ⟨S16384x1, .i32⟩
  | 45 => ⟨S16384, .i32⟩
  | 46 => ⟨S_, .i32⟩
  | 47 => ⟨S16384, .i32⟩
  | 48 => ⟨S16384, .i1⟩
  | 49 => ⟨S_, .i32⟩
  | 50 => ⟨S16384, .i32⟩
  | 51 => ⟨S16384, .i32⟩
  | 52 => ⟨S16384, .i32⟩
  | 53 => ⟨S_, .i32⟩
  | 54 => ⟨S16384, .i32⟩
  | 55 => ⟨S16384, .i1⟩
  | 56 => ⟨S_, .i32⟩
  | 57 => ⟨S16384, .i32⟩
  | 58 => ⟨S16384, .i32⟩
  | 59 => ⟨S16384, .i32⟩
  | 60 => ⟨S16384x1, .i32⟩
  | 61 => ⟨S16384x1, .i32⟩
  | 62 => ⟨S16384x2, .i32⟩
  | 63 => ⟨S16384, .f32⟩
  | 64 => ⟨S16384, .f32⟩
  | 65 => ⟨S_, .f32⟩
  | 66 => ⟨S16384, .f32⟩
  | 67 => ⟨S16384, .i1⟩
  | 68 => ⟨S16384, .f32⟩
  | 69 => ⟨S_, .f32⟩
  | 70 => ⟨S16384, .f32⟩
  | 71 => ⟨S16384, .i1⟩
  | 72 => ⟨S16384, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S16384, .f32⟩
  | 81 => ⟨S16384, .f32⟩
  | 82 => ⟨S_, .f32⟩
  | 83 => ⟨S16384, .f32⟩
  | 84 => ⟨S16384, .f32⟩
  | 85 => ⟨S16384x1000, .f32⟩
  | 86 => ⟨S_, .f32⟩
  | 87 => ⟨S16384, .f32⟩
  | 88 => ⟨S16384, .f32⟩
  | 89 => ⟨S_, .f32⟩
  | 90 => ⟨S16384, .f32⟩
  | 91 => ⟨S16384, .f32⟩
  | 92 => ⟨S16384, .f32⟩
  | 93 => ⟨S_, .f32⟩
  | 94 => ⟨S16384, .f32⟩
  | 95 => ⟨S16384, .f32⟩
  | 96 => ⟨S_, .f32⟩
  | 97 => ⟨S16384, .f32⟩
  | 98 => ⟨S16384, .i1⟩
  | 99 => ⟨S16384, .f32⟩
  | 100 => ⟨S16384, .f32⟩
  | 101 => ⟨S_, .f32⟩
  | 102 => ⟨S_, .f32⟩
  | 103 => ⟨S16384, .f32⟩
  | 104 => ⟨S16384, .f32⟩
  | 105 => ⟨S16384, .f32⟩
  | 106 => ⟨S16384, .f32⟩
  | 107 => ⟨S16384, .i1⟩
  | 108 => ⟨S_, .f32⟩
  | 109 => ⟨S_, .f32⟩
  | 110 => ⟨S16384, .f32⟩
  | 111 => ⟨S16384, .f32⟩
  | 112 => ⟨S_, .f32⟩
  | 113 => ⟨S_, .f32⟩
  | 114 => ⟨S_, .f32⟩
  | 115 => ⟨S16384, .f32⟩
  | 116 => ⟨S16384, .f32⟩
  | 117 => ⟨S16384, .f32⟩
  | 118 => ⟨S_, .f32⟩
  | 119 => ⟨S_, .f32⟩
  | 120 => ⟨S16384, .f32⟩
  | 121 => ⟨S16384, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16384x1000, .f32⟩

abbrev hbmTy0_1 (i : Nat) : BufTy := match i % 128 with
  | 0 => ⟨S_, .f32⟩
  | 1 => ⟨S_, .f32⟩
  | _ => ⟨S16384x1000, .f32⟩

abbrev hbmTy (i : Nat) : BufTy := match i / 128 with
  | 0 => hbmTy0_0 i
  | 1 => hbmTy0_1 i
  | _ => ⟨S16384x1000, .f32⟩

abbrev bufTy : (tb : Table) → Fin (tcTables nBuf tb) → BufTy
  | .hbm, ⟨i, _⟩ => hbmTy i
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_7 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_9 : Ref sig .tc := ⟨.hbm, 53, rfl⟩
abbrev main_v39 : Ref sig .tc := ⟨.hbm, 54, rfl⟩
abbrev main_v40 : Ref sig .tc := ⟨.hbm, 55, rfl⟩
abbrev main_c_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_cst_13 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_call1_cst : Ref sig .tc := ⟨.hbm, 82, rfl⟩
abbrev main_call1_v0 : Ref sig .tc := ⟨.hbm, 83, rfl⟩
abbrev main_v60 : Ref sig .tc := ⟨.hbm, 84, rfl⟩
abbrev main_v61 : Ref sig .tc := ⟨.hbm, 85, rfl⟩
abbrev main_cst_16 : Ref sig .tc := ⟨.hbm, 86, rfl⟩
abbrev main_v62 : Ref sig .tc := ⟨.hbm, 87, rfl⟩
abbrev main_v63 : Ref sig .tc := ⟨.hbm, 88, rfl⟩
abbrev main_cst_17 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call2_cst : Ref sig .tc := ⟨.hbm, 93, rfl⟩
abbrev main_call2_v0 : Ref sig .tc := ⟨.hbm, 94, rfl⟩
abbrev main_v67 : Ref sig .tc := ⟨.hbm, 95, rfl⟩
abbrev main_cst_18 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call5_call0_cst : Ref sig .tc := ⟨.hbm, 101, rfl⟩
abbrev main_call5_call0_v0 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_19 : Ref sig .tc := ⟨.hbm, 108, rfl⟩
abbrev main_call6_v0 : Ref sig .tc := ⟨.hbm, 109, rfl⟩
abbrev main_call6_v1 : Ref sig .tc := ⟨.hbm, 110, rfl⟩
abbrev main_v77 : Ref sig .tc := ⟨.hbm, 111, rfl⟩
abbrev main_cst_20 : Ref sig .tc := ⟨.hbm, 112, rfl⟩
abbrev main_v78 : Ref sig .tc := ⟨.hbm, 113, rfl⟩
abbrev main_cst_21 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_22 : Ref sig .tc := ⟨.hbm, 118, rfl⟩
abbrev main_call7_v0 : Ref sig .tc := ⟨.hbm, 119, rfl⟩
abbrev main_call7_v1 : Ref sig .tc := ⟨.hbm, 120, rfl⟩
abbrev main_v82 : Ref sig .tc := ⟨.hbm, 121, rfl⟩
abbrev main_cst_23 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_24 : Ref sig .tc := ⟨.hbm, 126, rfl⟩
abbrev main_v86 : Ref sig .tc := ⟨.hbm, 127, rfl⟩
abbrev main_cst_25 : Ref sig .tc := ⟨.hbm, 128, rfl⟩
abbrev main_v87 : Ref sig .tc := ⟨.hbm, 129, rfl⟩

abbrev nD : Nat := 1
abbrev τ : Topo := Topo.v7x

variable {F : FTy → Type} [FloatOps F]
-- ==== Proof.Rows.lean ====
/- One grid point of the kernel over the extended reals: what the body leaves in the two scratch arrays and, at the
   last point, in the result's staging buffer. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.ValueIdx
public import Idealize.ShloMosaic.Lib.WritesUnit
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The losses of one block of 2048 points: the hinge loss where the margin is nonnegative, else the clipped cross
    entropy bound. -/
def lossRow (x : Vec F S1000x2048 .f32) (y : Vec F S1x2048 .f32) : FVec F S1x2048 .f32 :=
  k0_pay1 (k0_pay19 x y) (k0_pay20 x y) (k0_pay21 x y) k0_pay22

/-- The margins of one block of 2048 points. -/
def marginRow (x : Vec F S1000x2048 .f32) (y : Vec F S1x2048 .f32) : FVec F S1x2048 .f32 :=
  k0_pay2 (k0_pay19 x y)

/-- An array of eight rows with row `k` replaced. -/
def setRow (k : ℕ) (r : FVec F S1x2048 .f32) (d : Vec F S8x2048 .f32) : Vec F S8x2048 .f32 :=
  fun y => if (y 0).val = k then r (ValueIdx.ix2 0 (y 1)) else d y

/-- One step of the search for the cut: the bracket of float patterns halved. -/
def cutStep (a b : Vec F S8x2048 .f32) (p : BitVec 32 × BitVec 32) : BitVec 32 × BitVec 32 :=
  have mid : BitVec 32 := Scalar.addi p.1 (Scalar.divsi (Scalar.addi (Scalar.subi p.2 p.1) 1#32) 2#32)
  have c : BitVec 1 := Scalar.cmpf .ole (k0_pay6 a p.1 p.2) (k0_pay5 b)
  (Scalar.select c mid p.1, Scalar.select c p.2 (Scalar.subi mid 1#32))

/-- The lower end of the bracket after the search: the pattern of the cut, or `-1`. -/
def cutWord (a b : Vec F S8x2048 .f32) : BitVec 32 :=
  (Scf.fold (fun (_ : Fin k0_t1_loop.trips) p => cutStep a b p) (4294967295#32, 2139095040#32)).1

/-- The result the last point computes from all the losses and all the margins. -/
def finalOut (a b : Vec F S8x2048 .f32) : FVec F S1x1 .f32 :=
  k0_pay3 (k0_pay4 b) (k0_pay11 a (k0_pay7 a (cutWord a b)))
    (k0_pay13 a (k0_pay4 b) (k0_pay7 a (cutWord a b)) (k0_pay8 a (cutWord a b)) (k0_pay9 a (cutWord a b)))
    (k0_pay14 a (k0_pay4 b) (k0_pay7 a (cutWord a b)) (k0_pay8 a (cutWord a b)) (k0_pay9 a (cutWord a b)))
    (k0_pay15 a (k0_pay7 a (cutWord a b)))
    (Scalar.cmpf .ogt (k0_pay13 a (k0_pay4 b) (k0_pay7 a (cutWord a b)) (k0_pay8 a (cutWord a b)) (k0_pay9 a (cutWord a b)))
      (Scalar.ofBits .f32 0x00000000#32))

/-- The body stores its row at the row of the grid point. -/
theorem off_eq (i : grid0.Coords) : k0_off1 i = ![(i 0).val, 0] := by
  have h : (i 0).val < 8 := (i 0).isLt
  have h8 : grid0.bound 0 = 8 := rfl
  show ![(BitVec.ofNat 32 (i 0).val).toNat, 0] = _
  rw [BitVec.toNat_ofNat, Nat.mod_eq_of_lt (by omega)]

/-- Reading back after a store of one row. -/
theorem store_row {κ : Kind} {sp : Space} (v : View sig κ sp S8x2048 .f32) (f : v.ty.Contents (Elt F)) (i : grid0.Coords)
    (r : FVec F S1x2048 .f32) :
    v.read (Elt F) (v.writes (Elt F) f [⟨Rect.unit (s := S8x2048) (k0_off1 i) S1x2048.size (k0_off1_inb i), r⟩])
      = setRow (i 0).val r (v.read (Elt F) f) := by
  funext y
  unfold setRow
  split
  · next h =>
    exact View.read_writes_cons_rows_of_mem v f (k0_off1_inb i) r [] y (ValueIdx.ix2 0 (y 1)) (off_eq i) (by rw [h]; rfl) rfl
  · next h =>
    exact View.read_writes_cons_rows_of_not_mem (W := 1) v f (k0_off1_inb i) r [] y (off_eq i) rfl (by omega)

end Cert.KernelIdeal.Hand

end
-- ==== Proof.RunEarly.lean ====
/- The body at a grid point before the last. -/
module

public import proofs.«01_k».proof.Proof.Rows
public import proofs.«01_k».proof.Proof.Gen.KernelIdeal.Skeleton
public import proofs.«01_k».proof.Proof.Gen.KernelIdeal.Points
public import Idealize.ShloMosaic.Lib.ValueIdx
public import Idealize.ShloMosaic.Lib.WritesUnit
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- A point before the last: it stores its rows of losses and margins and leaves the result's buffer alone. -/
theorem run_early (c : Dev nD) (i : grid0.Coords) (arg1 : Memref sig .tc .vmem S1000x2048 .f32) (harg1 : arg1.IsWhole) (arg2 : Memref sig .tc .vmem S1x2048 .f32) (harg2 : arg2.IsWhole) (arg3 : Memref sig .tc .vmem S1x1 .f32) (harg3 : arg3.IsWhole) (arg4 : Memref sig .tc .vmem S8x2048 .f32) (harg4 : arg4.IsWhole) (arg5 : Memref sig .tc .vmem S8x2048 .f32) (harg5 : arg5.IsWhole) (hc0 : ¬ k0_cond1 i = 1#1)
    (x0 : Vec F S1000x2048 .f32) (x1 : Vec F S1x2048 .f32) (d2 : Vec F S1x1 .f32) (d4 d5 : Vec F S8x2048 .f32) :
      ∀ (E : Set ℕ) (K : PUnit → sProp 𝕄),
        iprop(owns (c : Thread nD τ) arg1 fullShare x0 ∗ owns (c : Thread nD τ) arg2 fullShare x1 ∗ owns (c : Thread nD τ) arg3 fullShare d2 ∗ owns (c : Thread nD τ) arg4 fullShare d4 ∗ owns (c : Thread nD τ) arg5 fullShare d5
            ∗ (iprop(owns (c : Thread nD τ) arg1 fullShare x0 ∗ owns (c : Thread nD τ) arg2 fullShare x1 ∗ owns (c : Thread nD τ) arg3 fullShare d2 ∗ owns (c : Thread nD τ) arg4 fullShare (setRow (i 0).val (lossRow x0 x1) d4) ∗ owns (c : Thread nD τ) arg5 fullShare (setRow (i 0).val (marginRow x0 x1) d5)) -∗ K ⟨⟩))
          ⊢ wp frame (wpE (defs₀ (F := F)) Variants.none c none) E (cc0__npc_kernel i arg1 harg1 arg2 harg2 arg3 harg3 arg4 harg4 arg5 harg5) K := by
    intro E K
    simp only [cc0__npc_kernel_eq_skeleton]; unfold cc0__npc_kernel_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%fs0, %hs0, HS0⟩, ⟨%fs1, %hs1, HS1⟩, Hk⟩
    obtain rfl := harg1.eq_unread hf0; obtain rfl := harg2.eq_unread hf1
    sl_exec (disch := first | sl_exact hc0)
    sl_step
    iapply Hk
    have e0 : View.readAt (Elt F) arg1.view (Rect.unit (s := S1000x2048) ![0, 0] S1000x2048.size inb_S1000x2048_S1000x2048_0_0).toLoadRect (harg1.unread x0) = x0 := by
      rw [View.readAt_full, harg1.read_unread]
    have e1 : View.readAt (Elt F) arg2.view (Rect.unit (s := S1x2048) ![0, 0] S1x2048.size inb_S1x2048_S1x2048_0_0).toLoadRect (harg2.unread x1) = x1 := by
      rw [View.readAt_full, harg2.read_unread]
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; exact hf2
    isplitl [HS0]
    · iexists _; isplitr; swap; · iexact HS0
      ipureintro; unfold run_early.sl.r run_early.sl.r_1 run_early.sl.r_2; rw [e0, e1, ← hs0]; exact store_row _ _ _ _
    iexists _; isplitr; swap; · iexact HS1
    ipureintro; unfold run_early.sl.r; rw [e0, e1, ← hs1]; exact store_row _ _ _ _

end Cert.KernelIdeal.Hand

end
-- ==== Proof.RunLast.lean ====
/- The body at the last grid point. -/
module

public import proofs.«01_k».proof.Proof.Rows
public import proofs.«01_k».proof.Proof.Gen.KernelIdeal.Skeleton
public import proofs.«01_k».proof.Proof.Gen.KernelIdeal.Points
public import Idealize.ShloMosaic.Lib.ValueIdx
public import Idealize.ShloMosaic.Lib.WritesUnit
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The last point: it stores its rows of losses and margins, and the result of all of them. -/
theorem run_last (c : Dev nD) (i : grid0.Coords) (arg1 : Memref sig .tc .vmem S1000x2048 .f32) (harg1 : arg1.IsWhole) (arg2 : Memref sig .tc .vmem S1x2048 .f32) (harg2 : arg2.IsWhole) (arg3 : Memref sig .tc .vmem S1x1 .f32) (harg3 : arg3.IsWhole) (arg4 : Memref sig .tc .vmem S8x2048 .f32) (harg4 : arg4.IsWhole) (arg5 : Memref sig .tc .vmem S8x2048 .f32) (harg5 : arg5.IsWhole) (hc0 : k0_cond1 i = 1#1)
    (x0 : Vec F S1000x2048 .f32) (x1 : Vec F S1x2048 .f32) (d4 d5 : Vec F S8x2048 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare d4 ∗ owns (c : Thread nD τ) arg5 fullShare d5
            ∗ (iprop(owns (c : Thread nD τ) arg1 fullShare x0 ∗ owns (c : Thread nD τ) arg2 fullShare x1 ∗ owns (c : Thread nD τ) arg3 fullShare (finalOut (setRow (i 0).val (lossRow x0 x1) d4) (setRow (i 0).val (marginRow x0 x1) d5)) ∗ owns (c : Thread nD τ) arg4 fullShare (setRow (i 0).val (lossRow x0 x1) d4) ∗ owns (c : Thread nD τ) arg5 fullShare (setRow (i 0).val (marginRow x0 x1) d5)) -∗ K ⟨⟩))
          ⊢ wp frame (wpE (defs₀ (F := F)) Variants.none c none) E (cc0__npc_kernel i arg1 harg1 arg2 harg2 arg3 harg3 arg4 harg4 arg5 harg5) K := by
    intro E K
    simp only [cc0__npc_kernel_eq_skeleton]; unfold cc0__npc_kernel_skel
    simp only [k0_part3_eq_skeleton, k0_part1_eq_skeleton, k0_part2_eq_skeleton]
    unfold owns
    iintro ⟨⟨%f0, %hf0, H0⟩, ⟨%f1, %hf1, H1⟩, ⟨%d2, %f2, -, H2⟩, ⟨%fs0, %hs0, HS0⟩, ⟨%fs1, %hs1, HS1⟩, Hk⟩
    obtain rfl := harg1.eq_unread hf0; obtain rfl := harg2.eq_unread hf1
    sl_exec (disch := first | sl_exact hc0)
    sl_step
    iapply Hk
    have e0 : View.readAt (Elt F) arg1.view (Rect.unit (s := S1000x2048) ![0, 0] S1000x2048.size inb_S1000x2048_S1000x2048_0_0).toLoadRect (harg1.unread x0) = x0 := by
      rw [View.readAt_full, harg1.read_unread]
    have e1 : View.readAt (Elt F) arg2.view (Rect.unit (s := S1x2048) ![0, 0] S1x2048.size inb_S1x2048_S1x2048_0_0).toLoadRect (harg2.unread x1) = x1 := by
      rw [View.readAt_full, harg2.read_unread]
    have h4 : arg4.view.read (Elt F) (arg4.view.writes (Elt F) fs0 (run_last.sl.HS0_1 c i arg1 harg1 arg2 harg2 x0 x1)) = setRow (i 0).val (lossRow x0 x1) d4 := by
      unfold run_last.sl.HS0_1 run_last.sl.r run_last.sl.r_1 run_last.sl.r_2
      rw [e0, e1, ← hs0]
      exact store_row _ _ _ _
    have h5 : arg5.view.read (Elt F) (arg5.view.writes (Elt F) fs1 (run_last.sl.HS1_1 c i arg1 harg1 arg2 harg2 x0 x1)) = setRow (i 0).val (marginRow x0 x1) d5 := by
      unfold run_last.sl.HS1_1 run_last.sl.r
      rw [e0, e1, ← hs1]
      exact store_row _ _ _ _
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      refine (View.read_writes_full (s := S1x1) _ _ _ _ _).trans ?_
      have r4 : run_last.sl.r_4 c i arg1 harg1 arg2 harg2 arg4 x0 x1 fs0 = setRow (i 0).val (lossRow x0 x1) d4 :=
        (View.readAt_full _ _ _).trans h4
      have r5 : run_last.sl.r_5 c i arg1 harg1 arg2 harg2 arg5 x0 x1 fs1 = k0_pay4 (setRow (i 0).val (marginRow x0 x1) d5) :=
        congrArg k0_pay4 ((View.readAt_full _ _ _).trans h5)
      have r3 : run_last.sl.r_3 c i arg1 harg1 arg2 harg2 arg4 arg5 x0 x1 fs0 fs1
          = Scf.fold (fun (_ : Fin k0_t1_loop.trips) p => cutStep (setRow (i 0).val (lossRow x0 x1) d4) (setRow (i 0).val (marginRow x0 x1) d5) p) (4294967295#32, 2139095040#32) := by
        have a4 := (View.readAt_full arg4.view (arg4.view.writes (Elt F) fs0 (run_last.sl.HS0_1 c i arg1 harg1 arg2 harg2 x0 x1)) inb_S8x2048_S8x2048_0_0).trans h4
        have a5 := (View.readAt_full arg5.view (arg5.view.writes (Elt F) fs1 (run_last.sl.HS1_1 c i arg1 harg1 arg2 harg2 x0 x1)) inb_S8x2048_S8x2048_0_0).trans h5
        unfold run_last.sl.r_3
        rw [a4, a5]
        rfl
      have r6 : run_last.sl.r_6 c i arg1 harg1 arg2 harg2 arg4 arg5 x0 x1 fs0 fs1 = k0_pay7 (setRow (i 0).val (lossRow x0 x1) d4) (cutWord (setRow (i 0).val (lossRow x0 x1) d4) (setRow (i 0).val (marginRow x0 x1) d5)) := by
        have a4 := (View.readAt_full arg4.view (arg4.view.writes (Elt F) fs0 (run_last.sl.HS0_1 c i arg1 harg1 arg2 harg2 x0 x1)) inb_S8x2048_S8x2048_0_0).trans h4
        unfold run_last.sl.r_6
        rw [r3, a4]; rfl
      have r7 : run_last.sl.r_7 c i arg1 harg1 arg2 harg2 arg4 arg5 x0 x1 fs0 fs1 = k0_pay8 (setRow (i 0).val (lossRow x0 x1) d4) (cutWord (setRow (i 0).val (lossRow x0 x1) d4) (setRow (i 0).val (marginRow x0 x1) d5)) := by
        have a4 := (View.readAt_full arg4.view (arg4.view.writes (Elt F) fs0 (run_last.sl.HS0_1 c i arg1 harg1 arg2 harg2 x0 x1)) inb_S8x2048_S8x2048_0_0).trans h4
        unfold run_last.sl.r_7
        rw [r3, a4]; rfl
      have r8 : run_last.sl.r_8 c i arg1 harg1 arg2 harg2 arg4 arg5 x0 x1 fs0 fs1 = k0_pay9 (setRow (i 0).val (lossRow x0 x1) d4) (cutWord (setRow (i 0).val (lossRow x0 x1) d4) (setRow (i 0).val (marginRow x0 x1) d5)) := by
        have a4 := (View.readAt_full arg4.view (arg4.view.writes (Elt F) fs0 (run_last.sl.HS0_1 c i arg1 harg1 arg2 harg2 x0 x1)) inb_S8x2048_S8x2048_0_0).trans h4
        unfold run_last.sl.r_8
        rw [r3, a4]; rfl
      unfold run_last.sl.v137 run_last.sl.r_12 run_last.sl.r_11 run_last.sl.r_10 run_last.sl.r_9
      rw [r4, r5, r6, r7, r8]
      rfl
    isplitl [HS0]
    · iexists _; isplitr; swap; · iexact HS0
      ipureintro; exact h4
    iexists _; isplitr; swap; · iexact HS1
    ipureintro; exact h5

end Cert.KernelIdeal.Hand

end
-- ==== Proof.Launch.lean ====
/- The kernel's launch over the extended reals, with the contents of the two scratch arrays tracked from point to
   point: after point `t` the rows up to `t` hold the losses and the margins of the blocks read so far. -/
module

public import proofs.«01_k».proof.Proof.RunEarly
public import proofs.«01_k».proof.Proof.RunLast
public import Idealize.ShloMosaic.Lib.Pipeline.Value
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point that writes a row. -/
def pt (k : Fin 8) : Fin cfg0.N := ⟨k.val, lt_of_lt_of_eq k.isLt N_0.symm⟩

/-- All the losses: row `k` is that of the block read at point `k`. -/
def lossAll (c : Dev nD) : Vec F S8x2048 .f32 := fun y => lossRow (iblk m c 0 (pt (y 0))) (iblk m c 1 (pt (y 0))) (ValueIdx.ix2 0 (y 1))

/-- All the margins. -/
def marginAll (c : Dev nD) : Vec F S8x2048 .f32 := fun y => marginRow (iblk m c 0 (pt (y 0))) (iblk m c 1 (pt (y 0))) (ValueIdx.ix2 0 (y 1))

/-- The two scratch arrays, as memrefs. -/
abbrev sc0 : Memref sig .tc .vmem S8x2048 .f32 := Memref.whole cc0_scratch0
abbrev sc1 : Memref sig .tc .vmem S8x2048 .f32 := Memref.whole cc0_scratch1

/-- The first `t` rows of `d` are those of `a`. -/
def Agree (t : ℕ) (a d : Vec F S8x2048 .f32) : Prop := ∀ y, (y 0).val < t → d y = a y

/-- What holds of the scratch arrays before point `t`. -/
def Inv (c : Dev nD) (t : ℕ) : sProp 𝕄 :=
  iprop((∃ d4, owns (c : Thread nD τ) sc0 fullShare d4 ∗ ⌜Agree t (lossAll m c) d4⌝)
    ∗ (∃ d5, owns (c : Thread nD τ) sc1 fullShare d5 ∗ ⌜Agree t (marginAll m c) d5⌝) ∗ ∃ r, prngReg c r)

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => finalOut (lossAll m c) (marginAll m c)
  Φ t := Inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = finalOut (lossAll m c) (marginAll m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Storing row `k` extends an agreement of `k` rows to one of `k + 1`. -/
theorem Agree.step {t : ℕ} {a d : Vec F S8x2048 .f32} (h : Agree t a d) (r : FVec F S1x2048 .f32)
    (hr : ∀ y, (y 0).val = t → a y = r (ValueIdx.ix2 0 (y 1))) : Agree (t + 1) a (setRow t r d) := by
  intro y hy
  unfold setRow
  split
  · next h' => exact (hr y h').symm
  · exact h y (by omega)

/-- Agreement on all eight rows is equality. -/
theorem Agree.eq {a d : Vec F S8x2048 .f32} (h : Agree 8 a d) : d = a :=
  funext fun y => h y (y 0).isLt

/-- The grid's coordinate at point `t` is `t`. -/
theorem coord_eq (t : Fin cfg0.N) : (grid0.coords t 0).val = t.val := by
  have e0 : (grid0.coords t 0).val = t.val / 1 % 8 := Pipeline.Grid.coords_val t 0 (by decide) rfl
  have ht : t.val < 8 := Nat.lt_of_lt_of_eq t.isLt N_0
  omega

/-- The last point is the one at which the result is computed. -/
theorem cond_iff (t : Fin cfg0.N) : k0_cond1 (grid0.coords t) = 1#1 ↔ t.val % 8 = 7 := by
  have ht : t.val < 8 := Nat.lt_of_lt_of_eq t.isLt N_0
  have e0 : (grid0.coords t 0).val = t.val / 1 % 8 := Pipeline.Grid.coords_val t 0 (by decide) rfl
  simp only [k0_cond1, e0]
  word_cmp

theorem loss_row_eq (c : Dev nD) (t : Fin cfg0.N) (y : S8x2048.Idx) (h : (y 0).val = t.val) :
    lossAll m c y = lossRow (iblk m c 0 t) (iblk m c 1 t) (ValueIdx.ix2 0 (y 1)) := by
  have : pt (y 0) = t := Fin.ext h
  unfold lossAll; rw [this]

theorem margin_row_eq (c : Dev nD) (t : Fin cfg0.N) (y : S8x2048.Idx) (h : (y 0).val = t.val) :
    marginAll m c y = marginRow (iblk m c 0 t) (iblk m c 1 t) (ValueIdx.ix2 0 (y 1)) := by
  have : pt (y 0) = t := Fin.ext h
  unfold marginAll; rw [this]

/-- Each window's current staging memref at a point. -/
abbrev ms0 (t : Fin cfg0.N) : Memref sig .tc .vmem S1000x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S1x1 .f32 := win0_2.stage (cfg0.slots t 2)

/-- The state before the body at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- The state after it. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves_0 (c : Dev nD) (t : Fin cfg0.N) :
    (dats m 0 c).leavesExact 0 t = owns (c : Thread nD τ) (ms0 t) fullShare (iblk m c 0 t) := by
  unfold Dat.leavesExact; rw [show cfg0.idle 0 (grid0.coords t) = false from rfl, after0_0]

theorem leaves_1 (c : Dev nD) (t : Fin cfg0.N) :
    (dats m 0 c).leavesExact 1 t = owns (c : Thread nD τ) (ms1 t) fullShare (iblk m c 1 t) := by
  unfold Dat.leavesExact; rw [show cfg0.idle 1 (grid0.coords t) = false from rfl, after0_1]

theorem leaves_2_last (c : Dev nD) (t : Fin cfg0.N) (h : k0_cond1 (grid0.coords t) = 1#1) :
    (dats m 0 c).leavesExact 2 t = owns (c : Thread nD τ) (ms2 t) fullShare (finalOut (lossAll m c) (marginAll m c)) := by
  unfold Dat.leavesExact
  rw [show cfg0.idle 2 (grid0.coords t) = false from by
    show (!(k0_cond1 (grid0.coords t) == 1#1)) = false
    rw [h]; rfl, after0_2]

theorem leaves_2_early (c : Dev nD) (t : Fin cfg0.N) (h : ¬ k0_cond1 (grid0.coords t) = 1#1) :
    (dats m 0 c).leavesExact 2 t = iprop(∃ d, owns (c : Thread nD τ) (ms2 t) fullShare ((dats m 0 c).before 2 t d)) := by
  refine (dats m 0 c).leavesExact_idle 2 t ?_ ?_
  · show (!(k0_cond1 (grid0.coords t) == 1#1)) = true
    simp [h]
  · have := (flush0_2 t).not.mpr (fun e => h ((cond_iff t).mpr e))
    simpa using this

set_option maxHeartbeats 800000 in
/-- The body at any point carries the tracked state on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    show (dats m 0 c).Φ t.castSucc = Inv m c t.val from rfl, show (dats m 0 c).Φ t.succ = Inv m c (t.val + 1) from rfl,
    leaves_0, leaves_1]
  have ek := coord_eq t
  by_cases h0 : k0_cond1 (grid0.coords t) = 1#1
  · have h7 : t.val = 7 := by
      have := (cond_iff t).mp h0
      have ht : t.val < 8 := Nat.lt_of_lt_of_eq t.isLt N_0
      omega
    rw [leaves_2_last m c t h0]
    unfold Inv
    iintro ⟨⟨⟨%d4, HS0, %g4⟩, ⟨%d5, HS1, %g5⟩, Hg⟩, Ho, ⟨%d0, H0⟩, ⟨%d1, H1⟩, ⟨%d2, H2⟩⟩
    have a4 := g4.step (lossRow (iblk m c 0 t) (iblk m c 1 t)) (fun y h => loss_row_eq m c t y h)
    have a5 := g5.step (marginRow (iblk m c 0 t) (iblk m c 1 t)) (fun y h => margin_row_eq m c t y h)
    have e4 := Agree.eq (by rw [h7] at a4; exact a4)
    have e5 := Agree.eq (by rw [h7] at a5; exact a5)
    iapply ((run_last c (grid0.coords t) _ _ _ _ _ _ _ _ _ _ h0 (iblk m c 0 t) (iblk m c 1 t) d4 d5) Set.univ _)
    rw [ek, h7, e4, e5]
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hg]
    · isplitl [HS0]
      · iexists _; isplitl [HS0]; · iexact HS0
        ipureintro; exact fun _ _ => rfl
      isplitl [HS1]
      · iexists _; isplitl [HS1]; · iexact HS1
        ipureintro; exact fun _ _ => rfl
      iexact Hg
    isplitl [Ho]; · iexact Ho
    isplitl [H0]; · iexact H0
    isplitl [H1]; · iexact H1
    iexact H2
  · rw [leaves_2_early m c t h0]
    unfold Inv
    iintro ⟨⟨⟨%d4, HS0, %g4⟩, ⟨%d5, HS1, %g5⟩, Hg⟩, Ho, ⟨%d0, H0⟩, ⟨%d1, H1⟩, ⟨%d2, H2⟩⟩
    have a4 := g4.step (lossRow (iblk m c 0 t) (iblk m c 1 t)) (fun y h => loss_row_eq m c t y h)
    have a5 := g5.step (marginRow (iblk m c 0 t) (iblk m c 1 t)) (fun y h => margin_row_eq m c t y h)
    iapply ((run_early c (grid0.coords t) _ _ _ _ _ _ _ _ _ _ h0 (iblk m c 0 t) (iblk m c 1 t) ((dats m 0 c).before 2 t d2) d4 d5) Set.univ _)
    rw [ek]
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hg]
    · isplitl [HS0]
      · iexists _; isplitl [HS0]; · iexact HS0
        ipureintro; exact a4
      isplitl [HS1]
      · iexists _; isplitl [HS1]; · iexact HS1
        ipureintro; exact a5
      iexact Hg
    isplitl [Ho]; · iexact Ho
    isplitl [H0]; · iexact H0
    isplitl [H1]; · iexact H1
    iexists _; iexact H2

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch arrays at the launch: any contents will do. -/
theorem inv_in (c : Dev nD) : (Pipeline.ΦA spec0 c : sProp 𝕄) ⊢ Inv m c 0 := by
  unfold Pipeline.ΦA Inv; rw [scopedRest0_eq]; simp only [sc0, sc1, owns_whole]
  iintro ⟨⟨⟨%f0, H0⟩, ⟨%f1, H1⟩⟩, Hg⟩
  isplitl [H0]
  · iexists _; isplitl [H0]; · iexact H0
    ipureintro; exact fun y h => absurd h (Nat.not_lt_zero _)
  isplitl [H1]
  · iexists _; isplitl [H1]; · iexact H1
    ipureintro; exact fun y h => absurd h (Nat.not_lt_zero _)
  iexact Hg

/-- The scratch arrays at the end: their contents forgotten. -/
theorem inv_out (c : Dev nD) (n : ℕ) : Inv m c n ⊢ (Pipeline.ΦA spec0 c : sProp 𝕄) := by
  unfold Pipeline.ΦA Inv; rw [scopedRest0_eq]; simp only [sc0, sc1, owns_whole]
  iintro ⟨⟨%f0, H0, -⟩, ⟨%f1, H1, -⟩, Hg⟩
  isplitl [H0 H1]
  · isplitl [H0]
    · iexists _; iexact H0
    iexists _; iexact H1
  iexact Hg

set_option backward.isDefEq.respectTransparency.types false in
set_option maxHeartbeats 800000 in
/-- The launch: every fair execution ends with the arrays as the tracked data say and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := fun c => inv_out m c _) (Q' := _)

/-- The frame: the argument arrays unchanged and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.SameProgram.lean ====
/- The kernel and its idealization are one program, no operation being rewritten: so the frame proved of the latter, at
   any float instance, is the kernel's too. -/
module

public import proofs.«01_k».proof.Proof.Launch
public import proofs.«01_k».proof.Proof.Gen.Kernel

@[expose] public section

set_option maxRecDepth 65536
set_option maxHeartbeats 4000000

noncomputable section

namespace Cert.SameProgram

open Idealize.ShloMosaic Idealize.SL.Sem

variable {F : FTy → Type} [FloatOps F]

/-- One body table of the kernels. -/
theorem bodies_eq : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) => rfl

/-- One table with the pipelines. -/
theorem defs_eq : Cert.Kernel.defs (F := F) = Cert.KernelIdeal.defs (F := F) :=
  congrArg (fun d => Pipeline.defs (Cert.KernelIdeal.pcfgs (F := F)) d) bodies_eq

/-- One entry function. -/
theorem main_eq : Cert.Kernel.main (F := F) = Cert.KernelIdeal.main (F := F) := rfl

/-- The kernel's frame: the argument arrays unchanged and every counter at zero. -/
theorem frame_kernel (m : (ℓ : Loc Cert.Kernel.nD Cert.Kernel.τ Cert.Kernel.sig) → Buf (Elt F) ℓ)
    (g : Dev Cert.Kernel.nD → PrngReg) :
    θ_run (Cert.Kernel.defs (F := F)) (onTc (τ := Cert.Kernel.τ) (Cert.Kernel.main (F := F))) ⟨m, fun _ => 0, g⟩
      (fun r => (∀ c : Dev Cert.Kernel.nD,
        r.2.mem ((c.tc : Thread Cert.Kernel.nD Cert.Kernel.τ).loc Cert.Kernel.main_arg0)
          = m ((c.tc : Thread Cert.Kernel.nD Cert.Kernel.τ).loc Cert.Kernel.main_arg0)
        ∧ r.2.mem ((c.tc : Thread Cert.Kernel.nD Cert.Kernel.τ).loc Cert.Kernel.main_arg1)
          = m ((c.tc : Thread Cert.Kernel.nD Cert.Kernel.τ).loc Cert.Kernel.main_arg1))
        ∧ r.2.sem = fun _ => 0) := by
  rw [defs_eq]
  exact Cert.KernelIdeal.Hand.frame_ideal (F := F) m g

end Cert.SameProgram

end
-- ==== Proof.FloatGap.lean ====
/- The nonnegative 32-bit float patterns in order: the real each denotes, and the gap to the next. -/
module

public import Idealize.ShloMosaic.PureOps.Ideal
public import Mathlib.Tactic.Linarith
public import Mathlib.Tactic.Positivity
public import Mathlib.Tactic.NormNum

@[expose] public section

noncomputable section

namespace Cert.FloatGap

open Idealize.ShloMosaic

/-- The extended real the pattern `p` denotes. -/
def val (p : ℕ) : EReal := Ideal.ofBits .f32 (BitVec.ofNat 32 p)

/-- A pattern below infinity's denotes its significand times a power of two. -/
theorem val_eq {p : ℕ} (hp : p < 2139095040) :
    val p = (if p / 8388608 = 0 then (((p % 8388608 : ℕ) : ℝ) * (2 : ℝ) ^ (-149 : ℤ) : ℝ)
      else (((8388608 + p % 8388608 : ℕ) : ℝ) * (2 : ℝ) ^ (((p / 8388608 : ℕ) : ℤ) - 150) : ℝ) : ℝ) := by
  have hn : (BitVec.ofNat 32 p).toNat = p := by rw [BitVec.toNat_ofNat]; omega
  have e1 : ((BitVec.ofNat 32 p).extractLsb' (8 + 23) 1 == 1#1) = false := by
    rw [beq_eq_false_iff_ne]
    intro h
    have := congrArg BitVec.toNat h
    rw [BitVec.extractLsb'_toNat, hn, Nat.shiftRight_eq_div_pow] at this
    have e : p / 2 ^ (8 + 23) = 0 := Nat.div_eq_of_lt (by omega)
    rw [e] at this
    exact absurd this (by decide)
  have e2 : ((BitVec.ofNat 32 p).extractLsb' 23 8).toNat = p / 8388608 := by
    rw [BitVec.extractLsb'_toNat, hn, Nat.shiftRight_eq_div_pow]
    have : (2 : ℕ) ^ 23 = 8388608 := by norm_num
    rw [this]
    omega
  have e3 : ((BitVec.ofNat 32 p).extractLsb' 0 23).toNat = p % 8388608 := by
    rw [BitVec.extractLsb'_toNat, hn, Nat.shiftRight_eq_div_pow]
    norm_num
  unfold val Ideal.ofBits Ideal.ieee
  simp only [e1, e2, e3]
  rw [if_neg (by omega)]
  by_cases h : p / 8388608 = 0
  · rw [if_pos h, if_pos h]; norm_num
  · rw [if_neg h, if_neg h]
    have : ((p / 8388608 : ℕ) : ℤ) - (2 ^ (8 - 1) - 1) - ((23 : ℕ) : ℤ) = ((p / 8388608 : ℕ) : ℤ) - 150 := by norm_num; ring
    rw [this]; norm_num

theorem val_zero : val 0 = 0 := by rw [val_eq (by norm_num)]; norm_num

theorem val_top : val 2139095040 = ⊤ := by
  show Ideal.ieee 8 23 (2139095040#32) = ⊤
  simp [Ideal.ieee]

/-- One more unit below the normal range. -/
theorem step_sub {e f u d : ℝ} (h1 : 0 ≤ e * (f * u)) (h2 : u ≤ d) : (f + 1) * u ≤ f * u + (e * (f * u) + d) := by linarith

/-- One more unit in the normal range. -/
theorem step_norm {e f u d : ℝ} (h1 : u ≤ e * (f * u)) (h2 : 0 ≤ d) : (f + 1) * u ≤ f * u + (e * (f * u) + d) := by linarith

/-- The next pattern denotes at most 2^-23 of the value more, or 2^-126; the last finite one is large. -/
theorem gap {thr : ℝ} (hthr : thr ≤ 2 ^ 100) (p : ℕ) (hp : p < 2139095040) :
    ∃ a : ℝ, val p = (a : EReal) ∧ (thr ≤ a ∨ ∃ b : ℝ, val (p + 1) = (b : EReal) ∧
      b ≤ a + ((2 : ℝ) ^ (-23 : ℤ) * a + (2 : ℝ) ^ (-126 : ℤ))) := by
  refine ⟨_, val_eq hp, ?_⟩
  by_cases hlast : p + 1 = 2139095040
  · left
    have e1 : p / 8388608 = 254 := by omega
    have e2 : p % 8388608 = 8388607 := by omega
    rw [e1, e2, if_neg (by norm_num)]
    refine le_trans hthr ?_
    have : (2 : ℝ) ^ (((254 : ℕ) : ℤ) - 150) = 2 ^ 104 := by norm_num
    rw [this]; norm_num
  · right
    refine ⟨_, val_eq (p := p + 1) (by omega), ?_⟩
    have hd : (2 : ℝ) ^ (-149 : ℤ) ≤ (2 : ℝ) ^ (-126 : ℤ) := zpow_le_zpow_right₀ (by norm_num) (by norm_num)
    have hd0 : (0 : ℝ) < (2 : ℝ) ^ (-126 : ℤ) := by positivity
    have hd1 : (0 : ℝ) < (2 : ℝ) ^ (-149 : ℤ) := by positivity
    have h23 : (2 : ℝ) ^ (-23 : ℤ) * 8388608 = 1 := by norm_num
    have h230 : (0 : ℝ) < (2 : ℝ) ^ (-23 : ℤ) := by positivity
    have hf0 : (0 : ℝ) ≤ ((p % 8388608 : ℕ) : ℝ) := Nat.cast_nonneg _
    by_cases hE : p / 8388608 = 0
    · rw [if_pos hE]
      have h1 : (0 : ℝ) ≤ (2 : ℝ) ^ (-23 : ℤ) * (((p % 8388608 : ℕ) : ℝ) * (2 : ℝ) ^ (-149 : ℤ)) := by positivity
      by_cases hc : p % 8388608 + 1 < 8388608
      · have e1 : (p + 1) / 8388608 = 0 := by omega
        have e2 : (p + 1) % 8388608 = p % 8388608 + 1 := by omega
        rw [if_pos e1, e2, Nat.cast_add, Nat.cast_one]
        exact step_sub h1 hd
      · have e1 : (p + 1) / 8388608 = 1 := by omega
        have e2 : (p + 1) % 8388608 = 0 := by omega
        have e3 : p % 8388608 = 8388607 := by omega
        rw [show ((p % 8388608 : ℕ) : ℝ) = 8388607 from by rw [e3]; norm_num] at h1 ⊢
        rw [e1, e2, if_neg one_ne_zero]
        have : (2 : ℝ) ^ (((1 : ℕ) : ℤ) - 150) = (2 : ℝ) ^ (-149 : ℤ) := by norm_num
        rw [this, show ((8388608 + 0 : ℕ) : ℝ) = 8388607 + 1 from by norm_num]
        exact step_sub h1 hd
    · rw [if_neg hE]
      generalize hu : (2 : ℝ) ^ (((p / 8388608 : ℕ) : ℤ) - 150) = u
      have hu0 : 0 < u := by rw [← hu]; positivity
      have h1 : u ≤ (2 : ℝ) ^ (-23 : ℤ) * (((8388608 + p % 8388608 : ℕ) : ℝ) * u) := by
        push_cast
        have : (2 : ℝ) ^ (-23 : ℤ) * ((8388608 + ((p % 8388608 : ℕ) : ℝ)) * u)
            = ((2 : ℝ) ^ (-23 : ℤ) * 8388608) * u + (2 : ℝ) ^ (-23 : ℤ) * ((p % 8388608 : ℕ) : ℝ) * u := by ring
        push_cast at this
        rw [this, h23, one_mul]
        have : (0 : ℝ) ≤ (2 : ℝ) ^ (-23 : ℤ) * ((p % 8388608 : ℕ) : ℝ) * u := by positivity
        push_cast at this
        linarith
      by_cases hc : p % 8388608 + 1 < 8388608
      · have e1 : (p + 1) / 8388608 = p / 8388608 := by omega
        have e2 : (p + 1) % 8388608 = p % 8388608 + 1 := by omega
        rw [e1, e2, if_neg hE, hu, ← add_assoc, Nat.cast_add (_ + _), Nat.cast_one]
        exact step_norm h1 hd0.le
      · have e1 : (p + 1) / 8388608 = p / 8388608 + 1 := by omega
        have e2 : (p + 1) % 8388608 = 0 := by omega
        have e3 : p % 8388608 = 8388607 := by omega
        have e4 : (2 : ℝ) ^ (((p / 8388608 + 1 : ℕ) : ℤ) - 150) = 2 * u := by
          rw [← hu]
          have : ((p / 8388608 + 1 : ℕ) : ℤ) - 150 = (((p / 8388608 : ℕ) : ℤ) - 150) + 1 := by push_cast; ring
          rw [this, zpow_add_one₀ (by norm_num)]; ring
        rw [show ((8388608 + p % 8388608 : ℕ) : ℝ) = 16777215 from by rw [e3]; norm_num] at h1 ⊢
        rw [e1, e2, if_neg (Nat.succ_ne_zero _), e4,
          show ((8388608 + 0 : ℕ) : ℝ) * (2 * u) = (16777215 + 1) * u from by norm_num; ring]
        exact step_norm h1 hd0.le

end Cert.FloatGap

end
-- ==== Proof.Literals.lean ====
/- The float literals of the two programs and the comparisons' bits, over the extended reals. -/
module

public import proofs.«01_k».proof.Proof.FloatGap
public import Idealize.ShloMosaic.PureOps.Ideal.Laws

@[expose] public section

noncomputable section

namespace Cert.Literals

open Idealize.ShloMosaic

/-- A literal below infinity's pattern denotes a real. -/
theorem real_of_bits (p : ℕ) (hp : p < 2139095040) : ∃ r : ℝ, 0 ≤ r ∧ Ideal.ofBits .f32 (BitVec.ofNat 32 p) = (r : EReal) := by
  refine ⟨_, ?_, FloatGap.val_eq hp⟩
  split <;> positivity

theorem one : Ideal.ofBits .f32 0x3F800000#32 = 1 := by
  have := FloatGap.val_eq (p := 0x3F800000) (by norm_num)
  unfold FloatGap.val at this
  rw [this]; norm_num

theorem count : Ideal.ofBits .f32 0x46800000#32 = ((16384 : ℝ) : EReal) := by
  have := FloatGap.val_eq (p := 0x46800000) (by norm_num)
  unfold FloatGap.val at this
  rw [this]; norm_num

theorem ulp : Ideal.ofBits .f32 0x34000000#32 = (((2 : ℝ) ^ (-23 : ℤ) : ℝ) : EReal) := by
  have := FloatGap.val_eq (p := 0x34000000) (by norm_num)
  unfold FloatGap.val at this
  rw [this]; norm_num

theorem tiny : Ideal.ofBits .f32 0x00800000#32 = (((2 : ℝ) ^ (-126 : ℤ) : ℝ) : EReal) := by
  have := FloatGap.val_eq (p := 0x00800000) (by norm_num)
  unfold FloatGap.val at this
  rw [this]; norm_num

theorem inf : Ideal.ofBits .f32 0x7F800000#32 = ⊤ := FloatGap.val_top

theorem neg_inf : Ideal.ofBits .f32 0xFF800000#32 = ⊥ := by
  show Ideal.ieee 8 23 (0xFF800000#32) = ⊥
  simp [Ideal.ieee]

/-- The threshold's two constants are reals of moderate size. -/
theorem thr_lits : ∃ r1 r2 : ℝ, 0 ≤ r1 ∧ r1 ≤ 16384 ∧ 0 ≤ r2 ∧ r2 ≤ 1 ∧ Ideal.ofBits .f32 0x464F5C29#32 = (r1 : EReal) ∧
    Ideal.ofBits .f32 0x3F666666#32 = (r2 : EReal) := by
  have h1 := FloatGap.val_eq (p := 0x464F5C29) (by norm_num)
  have h2 := FloatGap.val_eq (p := 0x3F666666) (by norm_num)
  unfold FloatGap.val at h1 h2
  refine ⟨_, _, ?_, ?_, ?_, ?_, h1, h2⟩ <;> norm_num

theorem cmp_ole {x y : EReal} : Ideal.cmp .ole x y = 1#1 ↔ x ≤ y := by
  unfold Ideal.cmp; by_cases h : x ≤ y <;> simp [h]
theorem cmp_oge {x y : EReal} : Ideal.cmp .oge x y = 1#1 ↔ y ≤ x := by
  unfold Ideal.cmp; by_cases h : y ≤ x <;> simp [h]
theorem cmp_olt {x y : EReal} : Ideal.cmp .olt x y = 1#1 ↔ x < y := by
  unfold Ideal.cmp; by_cases h : x < y <;> simp [h]
theorem cmp_ogt {x y : EReal} : Ideal.cmp .ogt x y = 1#1 ↔ y < x := by
  unfold Ideal.cmp; by_cases h : y < x <;> simp [h]
theorem cmp_oeq {x y : EReal} : Ideal.cmp .oeq x y = 1#1 ↔ x = y := by
  unfold Ideal.cmp; by_cases h : x = y <;> simp [h]

/-- A comparison's bit, widened and read as a number. -/
theorem bit_signed (c : BitVec 1) : (((c.setWidth 32).toInt : ℝ) : EReal) = if c = 1#1 then 1 else 0 := by
  rcases (by revert c; decide : c = 0#1 ∨ c = 1#1) with h | h <;> subst h <;> simp

theorem bit_unsigned (c : BitVec 1) : ((c.toNat : ℝ) : EReal) = if c = 1#1 then 1 else 0 := by
  rcases (by revert c; decide : c = 0#1 ∨ c = 1#1) with h | h <;> subst h <;> simp

end Cert.Literals

end
-- ==== Proof.Select.lean ====
/- The arithmetic of a greedy selection from an ordered list of nonnegative reals: the selected elements are a prefix,
   and a prefix ended by equal elements is counted by one quotient. -/
module

public import Mathlib.Algebra.BigOperators.Fin
public import Mathlib.Algebra.Order.BigOperators.Group.Finset
public import Mathlib.Algebra.Order.Floor.Ring
public import Mathlib.Data.Real.Basic
public import Mathlib.Algebra.Order.Archimedean.Real.Basic
public import Mathlib.Tactic.Linarith
public import Mathlib.Tactic.Ring
public import Mathlib.Tactic.FieldSimp
public import Mathlib.Tactic.Push

@[expose] public section

noncomputable section

namespace Cert.Selection

open scoped BigOperators

/-- A property of positions that passes to every earlier position holds at exactly a prefix of them. -/
theorem exists_prefix {n : ℕ} (p : Fin n → Prop) (h : ∀ i j : Fin n, i ≤ j → p j → p i) :
    ∃ k ≤ n, ∀ i : Fin n, p i ↔ i.val < k := by
  classical
  by_cases hall : ∀ i, p i
  · exact ⟨n, le_refl n, fun i => ⟨fun _ => i.isLt, fun _ => hall i⟩⟩
  · push Not at hall
    have hex : ∃ j : ℕ, ∃ hj : j < n, ¬ p ⟨j, hj⟩ := by
      obtain ⟨i, hi⟩ := hall
      exact ⟨i.val, i.isLt, hi⟩
    obtain ⟨hk, hnp⟩ := Nat.find_spec hex
    refine ⟨Nat.find hex, hk.le, fun i => ⟨fun hi => ?_, fun hi => ?_⟩⟩
    · by_contra hge
      exact hnp (h ⟨_, hk⟩ i (by rw [Fin.le_def]; exact not_lt.mp hge) hi)
    · by_contra hpi
      exact Nat.find_min hex hi ⟨i.isLt, hpi⟩

/-- The number of positions before `c`. -/
theorem card_lt {n c : ℕ} (hc : c ≤ n) : (Finset.univ.filter fun i : Fin n => i.val < c).card = c := by
  have : (Finset.univ.filter fun i : Fin n => i.val < c) = Finset.univ.map (Fin.castLEEmb hc) := by
    ext i
    simp only [Finset.mem_filter, Finset.mem_univ, true_and, Finset.mem_map, Fin.castLEEmb_apply]
    constructor
    · intro h; exact ⟨⟨i.val, h⟩, rfl⟩
    · rintro ⟨j, rfl⟩; exact j.isLt
  rw [this, Finset.card_map, Finset.card_univ, Fintype.card_fin]

/-- The number of positions from `c` on and before `k`. -/
theorem card_Ico {n c k : ℕ} (hck : c ≤ k) (hk : k ≤ n) :
    (Finset.univ.filter fun i : Fin n => c ≤ i.val ∧ i.val < k).card = k - c := by
  have h : (Finset.univ.filter fun i : Fin n => i.val < k)
      = (Finset.univ.filter fun i : Fin n => i.val < c) ∪ (Finset.univ.filter fun i : Fin n => c ≤ i.val ∧ i.val < k) := by
    ext i; simp only [Finset.mem_filter, Finset.mem_univ, true_and, Finset.mem_union]; omega
  have hd : Disjoint (Finset.univ.filter fun i : Fin n => i.val < c) (Finset.univ.filter fun i : Fin n => c ≤ i.val ∧ i.val < k) := by
    rw [Finset.disjoint_filter]; intro i _ h1 h2; omega
  have := congrArg Finset.card h
  rw [Finset.card_union_of_disjoint hd, card_lt hk, card_lt (hck.trans hk)] at this
  omega

/-- A sum over the first `k` positions whose terms from `c` on are all `b`. -/
theorem sum_prefix {M : Type*} [AddCommMonoid M] {n c k : ℕ} (hck : c ≤ k) (hk : k ≤ n) (f : Fin n → M) (b : M)
    (hb : ∀ i : Fin n, c ≤ i.val → i.val < k → f i = b) :
    (∑ i : Fin n, if i.val < k then f i else 0) = (∑ i : Fin n, if i.val < c then f i else 0) + (k - c) • b := by
  classical
  have h1 : ∀ i : Fin n, (if i.val < k then f i else 0)
      = (if i.val < c then f i else 0) + (if c ≤ i.val ∧ i.val < k then b else 0) := by
    intro i
    by_cases h1 : i.val < c
    · rw [if_pos h1, if_pos (by omega), if_neg (by omega), add_zero]
    · by_cases h2 : i.val < k
      · rw [if_pos h2, if_neg h1, if_pos (by omega), zero_add, hb i (by omega) h2]
      · rw [if_neg h2, if_neg h1, if_neg (by omega), add_zero]
  rw [Finset.sum_congr rfl (fun i _ => h1 i), Finset.sum_add_distrib]
  congr 1
  rw [← Finset.sum_filter, Finset.sum_const, card_Ico hck hk]

/-- The sum of the first `j` elements, each increased by one. -/
def pre {n : ℕ} (s : Fin n → ℝ) (j : ℕ) : ℝ := ∑ i : Fin n, if i.val < j then s i + 1 else 0

theorem pre_zero {n : ℕ} (s : Fin n → ℝ) : pre s 0 = 0 := by
  unfold pre; simp

/-- Prefix sums of nonnegative elements do not decrease. -/
theorem pre_mono {n : ℕ} {s : Fin n → ℝ} (h0 : ∀ i, 0 ≤ s i) {a b : ℕ} (hab : a ≤ b) : pre s a ≤ pre s b := by
  unfold pre
  refine Finset.sum_le_sum fun i _ => ?_
  have := h0 i
  split <;> split <;> first | omega | linarith

/-- A sum over the positions with some property is at most the prefix sum of a prefix that contains them. -/
theorem sum_le_pre {n : ℕ} {s : Fin n → ℝ} (h0 : ∀ i, 0 ≤ s i) (p : Fin n → Prop) [DecidablePred p] {k : ℕ}
    (hp : ∀ i, p i → i.val < k) : (∑ i : Fin n, if p i then s i + 1 else 0) ≤ pre s k := by
  unfold pre
  refine Finset.sum_le_sum fun i _ => ?_
  have := h0 i
  by_cases h : p i
  · rw [if_pos h, if_pos (hp i h)]
  · rw [if_neg h]; split <;> linarith

/-- An element is, with one added, at most the sum up to and including it. -/
theorem le_pre {n : ℕ} {s : Fin n → ℝ} (h0 : ∀ i, 0 ≤ s i) (i : Fin n) : s i + 1 ≤ pre s (i.val + 1) := by
  classical
  have h := sum_le_pre h0 (fun j => j = i) (k := i.val + 1) (fun j hj => by subst hj; omega)
  rw [Finset.sum_ite_eq' Finset.univ i (fun j => s j + 1), if_pos (Finset.mem_univ i)] at h
  exact h

/-- The prefix sum past `c`, when the elements from `c` on are equal. -/
theorem pre_const {n : ℕ} {s : Fin n → ℝ} {c k : ℕ} (hck : c ≤ k) (hk : k ≤ n) {v : ℝ}
    (hv : ∀ i : Fin n, c ≤ i.val → i.val < k → s i = v) : pre s k = pre s c + ((k - c : ℕ) : ℝ) * (v + 1) := by
  unfold pre
  rw [sum_prefix hck hk (fun i => s i + 1) (v + 1) (fun i h1 h2 => by rw [hv i h1 h2]), nsmul_eq_mul]

/-- The prefix sum, split into the sum of the elements and their number. -/
theorem pre_eq {n : ℕ} (s : Fin n → ℝ) {c : ℕ} (hc : c ≤ n) : pre s c = (∑ i : Fin n, if i.val < c then s i else 0) + c := by
  unfold pre
  have h1 : ∀ i : Fin n, (if i.val < c then s i + 1 else 0) = (if i.val < c then s i else 0) + (if i.val < c then (1 : ℝ) else 0) := by
    intro i; split <;> simp
  rw [Finset.sum_congr rfl (fun i _ => h1 i), Finset.sum_add_distrib]
  congr 1
  rw [← Finset.sum_filter, Finset.sum_const, card_lt hc, nsmul_eq_mul, mul_one]

/-- The number of copies of the next value that are selected is the clipped quotient. -/
theorem copies {n : ℕ} {s : Fin n → ℝ} (h0 : ∀ i, 0 ≤ s i) (hmono : Monotone s) {thr : ℝ} {c k : ℕ} (hck : c ≤ k) (hk : k ≤ n)
    (hmask : ∀ i : Fin n, pre s (i.val + 1) ≤ thr + 1 ↔ i.val < k) (hc : c < n)
    (hlt : ∀ i : Fin n, i.val < c → s i < s ⟨c, hc⟩)
    (heq : ∀ i : Fin n, c ≤ i.val → i.val < k → s i = s ⟨c, hc⟩) :
    min ((Finset.univ.filter fun i : Fin n => s i = s ⟨c, hc⟩).card : ℤ)
        (max 0 (⌊(thr - (∑ i : Fin n, if i.val < c then s i else 0) - c - s ⟨c, hc⟩) / (s ⟨c, hc⟩ + 1)⌋ + 1))
      = ((k - c : ℕ) : ℤ) := by
  classical
  set v := s ⟨c, hc⟩ with hvdef
  have hv1 : 0 < v + 1 := by have := h0 ⟨c, hc⟩; linarith
  have hpc : pre s c = (∑ i : Fin n, if i.val < c then s i else 0) + c := pre_eq s hc.le
  set A := (∑ i : Fin n, if i.val < c then s i else 0) with hA
  have hmn : k - c ≤ (Finset.univ.filter fun i : Fin n => s i = v).card := by
    rw [← card_Ico hck hk]
    refine Finset.card_le_card fun i hi => ?_
    simp only [Finset.mem_filter, Finset.mem_univ, true_and] at hi ⊢
    exact heq i hi.1 hi.2
  have hfl : ∀ r : ℤ, r ≤ ⌊(thr - A - c - v) / (v + 1)⌋ + 1 ↔ pre s c + (r : ℝ) * (v + 1) ≤ thr + 1 := by
    intro r
    rw [← sub_le_iff_le_add, Int.le_floor, le_div_iff₀ hv1, hpc]
    push_cast
    constructor <;> intro h <;> nlinarith
  apply le_antisymm
  · by_contra hgt
    push Not at hgt
    have h1 : ((k - c : ℕ) : ℤ) + 1 ≤ ⌊(thr - A - c - v) / (v + 1)⌋ + 1 := by
      have := lt_of_lt_of_le hgt (min_le_right _ _)
      rcases le_total 0 (⌊(thr - A - c - v) / (v + 1)⌋ + 1) with h | h
      · rw [max_eq_right h] at this; omega
      · rw [max_eq_left h] at this; omega
    have h2 : k - c + 1 ≤ (Finset.univ.filter fun i : Fin n => s i = v).card := by
      have := lt_of_lt_of_le hgt (min_le_left _ _)
      omega
    have h3 : ∃ i : Fin n, s i = v ∧ k ≤ i.val := by
      by_contra hno
      push Not at hno
      have hsub : (Finset.univ.filter fun i : Fin n => s i = v) ⊆ (Finset.univ.filter fun i : Fin n => c ≤ i.val ∧ i.val < k) := by
        intro i hi
        simp only [Finset.mem_filter, Finset.mem_univ, true_and] at hi ⊢
        refine ⟨?_, hno i hi⟩
        by_contra hic
        exact absurd hi (hlt i (by omega)).ne
      have := Finset.card_le_card hsub
      rw [card_Ico hck hk] at this
      omega
    obtain ⟨i, hi, hki⟩ := h3
    have hkn : k < n := lt_of_le_of_lt hki i.isLt
    have hsk : s ⟨k, hkn⟩ = v := le_antisymm (hi ▸ hmono (Fin.le_def.mpr hki)) (hmono (Fin.le_def.mpr hck))
    have hp : pre s (k + 1) = pre s c + ((k + 1 - c : ℕ) : ℝ) * (v + 1) := by
      refine pre_const (by omega) hkn fun j hj1 hj2 => ?_
      by_cases hjk : j.val < k
      · exact heq j hj1 hjk
      · have : j = ⟨k, hkn⟩ := Fin.ext (by show j.val = k; omega)
        rw [this, hsk]
    have h4 := (hfl _).mp h1
    have : pre s (k + 1) ≤ thr + 1 := by
      rw [hp]
      have e : ((k + 1 - c : ℕ) : ℝ) = (((k - c : ℕ) : ℤ) + 1 : ℤ) := by
        have : k + 1 - c = (k - c) + 1 := by omega
        rw [this]; push_cast; ring
      rw [e]; exact h4
    exact absurd ((hmask ⟨k, hkn⟩).mp this) (lt_irrefl _)
  · refine le_min (by exact_mod_cast hmn) ?_
    rcases Nat.eq_or_lt_of_le hck with h | h
    · rw [← h, Nat.sub_self]; exact le_max_left _ _
    · refine le_trans ?_ (le_max_right _ _)
      rw [hfl]
      have hp := pre_const hck hk heq
      have hm := (hmask ⟨k - 1, by omega⟩).mpr (by show k - 1 < k; omega)
      have e : k - 1 + 1 = k := by omega
      simp only [e] at hm
      rw [hp] at hm
      exact_mod_cast hm

end Cert.Selection

end
-- ==== Proof.Parts.lean ====
/- A sum over the greedy selection, computed from the elements of a prefix and a counted number of copies of the next
   value, over the extended reals. -/
module

public import proofs.«01_k».proof.Proof.Select
public import Idealize.ShloMosaic.PureOps.Ideal

@[expose] public section

noncomputable section

namespace Cert.Selection

open scoped BigOperators
open Idealize.ShloMosaic

/-- A finite sum of reals, read among the extended reals. -/
theorem coe_sum {ι : Type*} (A : Finset ι) (f : ι → ℝ) : ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

/-- A finite sum of some of a family of reals, read among the extended reals. -/
theorem coe_sum_ite {ι : Type*} (A : Finset ι) (p : ι → Prop) [DecidablePred p] (f : ι → ℝ) :
    (∑ i ∈ A, if p i then (f i : EReal) else 0) = ((∑ i ∈ A, if p i then f i else 0 : ℝ) : EReal) := by
  rw [coe_sum]
  refine Finset.sum_congr rfl fun i _ => ?_
  split <;> simp

/-- A multiple of an extended real is the product with the number. -/
theorem nsmul_eq (n : ℕ) (x : EReal) : n • x = ((n : ℝ) : EReal) * x := by
  rw [EReal.nsmul_eq_mul]; norm_cast

/-- The number of copies of the value `vn` selected after a prefix of `c0` elements of sum `s0`: none when the prefix is
    everything, else the quotient clipped to the number `mn` of copies there are. -/
def copiesOf (thr s0 c0 vn mn n : EReal) : EReal :=
  if n ≤ c0 then 0 else min mn (max 0 (Ideal.liftRound Int.floor (Ideal.div (thr - s0 - c0 - vn) (vn + 1)) + 1))

/-- The quotient, clipped, is the clipped integer. -/
theorem copiesOf_real {thr s0 c0 vn mn n : ℝ} (hv : 0 ≤ vn) (hn : c0 < n) :
    copiesOf thr s0 c0 vn mn n
      = ((min mn (max 0 ((⌊(thr - s0 - c0 - vn) / (vn + 1)⌋ + 1 : ℤ) : ℝ)) : ℝ) : EReal) := by
  have h1 : (vn + 1 : ℝ) ≠ 0 := by positivity
  have h2 : ((vn : EReal) + 1) = ((vn + 1 : ℝ) : EReal) := by norm_cast
  unfold copiesOf
  rw [if_neg (by exact_mod_cast not_le.mpr hn), h2, Ideal.div_coe h1, ← EReal.coe_sub, ← EReal.coe_sub, ← EReal.coe_sub,
    ← EReal.coe_mul, mul_one_div, Ideal.liftRound_coe]
  push_cast
  have hm : Monotone (fun x : ℝ => (x : EReal)) := fun a b h => by
    show (a : EReal) ≤ (b : EReal)
    exact_mod_cast h
  rw [hm.map_min, hm.map_max]
  simp

variable {n : ℕ} {ι : Type*} [Fintype ι]

/-- The sum over the selection, from a prefix of it and the copies of the next value. -/
theorem parts {s : Fin n → ℝ} (h0 : ∀ i, 0 ≤ s i) (hmono : Monotone s) {thr : ℝ} {c k : ℕ} (hck : c ≤ k) (hk : k ≤ n)
    (hmask : ∀ i : Fin n, pre s (i.val + 1) ≤ thr + 1 ↔ i.val < k)
    (hc : ∀ hc : c < n, (∀ i : Fin n, i.val < c → s i < s ⟨c, hc⟩) ∧ ∀ i : Fin n, c ≤ i.val → i.val < k → s i = s ⟨c, hc⟩)
    (e : ι ≃ Fin n) (a : ι → EReal) (ha : ∀ y, a y = (s (e y) : EReal)) (sel : ι → Prop) [DecidablePred sel]
    (hsel : ∀ y, sel y ↔ (e y).val < c) (vn : EReal) (hvn : ∀ y, vn ≤ if sel y then ⊤ else a y)
    (hvn' : ∀ b : EReal, (∀ y, b ≤ if sel y then ⊤ else a y) → b ≤ vn) (f : EReal → EReal) (t : EReal)
    (ht : t = copiesOf thr (∑ y, if sel y then a y else 0) (∑ y, if sel y then 1 else 0) vn
      (∑ y, if a y = vn then 1 else 0) ((n : ℝ) : EReal)) :
    (∑ y, if sel y then f (a y) else 0) + (if 0 < t then t * f vn else 0)
      = ∑ i : Fin n, if i.val < k then f (s i) else 0 := by
  classical
  have hsum : ∀ g : EReal → EReal, (∑ y, if sel y then g (a y) else 0) = ∑ i : Fin n, if i.val < c then g (s i) else 0 := by
    intro g
    rw [← Equiv.sum_comp e]
    refine Finset.sum_congr rfl fun y _ => ?_
    rw [ha y]
    by_cases h : sel y
    · rw [if_pos h, if_pos ((hsel y).mp h)]
    · rw [if_neg h, if_neg (fun h' => h ((hsel y).mpr h'))]
  have hcount : c ≤ n → (∑ y, if sel y then (1 : EReal) else 0) = ((c : ℝ) : EReal) := by
    intro hcn
    rw [hsum (fun _ => 1)]
    have := coe_sum_ite Finset.univ (fun i : Fin n => i.val < c) (fun _ => (1 : ℝ))
    rw [EReal.coe_one] at this
    rw [this, ← Finset.sum_filter, Finset.sum_const, card_lt hcn, nsmul_eq_mul, mul_one]
  rw [hsum f]
  rcases Nat.lt_or_ge c n with hcn | hcn
  · obtain ⟨hlt, heq⟩ := hc hcn
    have hv : vn = (s ⟨c, hcn⟩ : EReal) := by
      apply le_antisymm
      · have h := hvn (e.symm ⟨c, hcn⟩)
        have hns : ¬ sel (e.symm ⟨c, hcn⟩) := by
          rw [hsel, Equiv.apply_symm_apply]; exact lt_irrefl c
        rw [if_neg hns, ha, Equiv.apply_symm_apply] at h
        exact h
      · refine hvn' _ fun y => ?_
        by_cases h : sel y
        · rw [if_pos h]; exact le_top
        · rw [if_neg h, ha]
          have : c ≤ (e y).val := by
            have := mt (hsel y).mpr h
            omega
          exact_mod_cast hmono (Fin.le_def.mpr this)
    have hmn : (∑ y, if a y = vn then (1 : EReal) else 0)
        = (((Finset.univ.filter fun i : Fin n => s i = s ⟨c, hcn⟩).card : ℝ) : EReal) := by
      have h1 : (∑ y, if a y = vn then (1 : EReal) else 0) = ∑ i : Fin n, if s i = s ⟨c, hcn⟩ then (1 : EReal) else 0 := by
        rw [← Equiv.sum_comp e]
        refine Finset.sum_congr rfl fun y _ => ?_
        rw [ha y, hv]
        by_cases h : s (e y) = s ⟨c, hcn⟩
        · rw [if_pos h, if_pos (by rw [h])]
        · rw [if_neg h, if_neg (fun h' => h (by exact_mod_cast h'))]
      have := coe_sum_ite Finset.univ (fun i : Fin n => s i = s ⟨c, hcn⟩) (fun _ => (1 : ℝ))
      rw [EReal.coe_one] at this
      rw [h1, this, ← Finset.sum_filter, Finset.sum_const, nsmul_eq_mul, mul_one]
    have hs0 : (∑ y, if sel y then a y else 0) = ((∑ i : Fin n, if i.val < c then s i else 0 : ℝ) : EReal) := by
      rw [hsum (fun x => x), coe_sum_ite]
    have hcop := copies h0 hmono hck hk hmask hcn hlt heq
    have ht' : t = (((k - c : ℕ) : ℝ) : EReal) := by
      rw [ht, hs0, hcount hcn.le, hmn, hv, copiesOf_real (h0 _) (by exact_mod_cast hcn)]
      have := congrArg (fun z : ℤ => (z : ℝ)) hcop
      push_cast at this
      rw [← this]
      push_cast
      rfl
    rw [sum_prefix hck hk (fun i => f (s i)) (f vn) (fun i h1 h2 => by rw [heq i h1 h2, hv]), nsmul_eq, ht']
    congr 1
    by_cases h : k - c = 0
    · rw [h]; simp
    · rw [if_pos]
      have : (0 : ℝ) < ((k - c : ℕ) : ℝ) := by exact_mod_cast Nat.pos_of_ne_zero h
      exact_mod_cast this
  · have hcn' : c = n := by omega
    have hkn : k = n := by omega
    have ht' : t = 0 := by
      rw [ht, hcount hcn'.le, hcn']; unfold copiesOf; rw [if_pos (le_refl _)]
    rw [ht', if_neg (lt_irrefl _), add_zero, hcn', hkn]

end Cert.Selection

end
-- ==== Proof.Halve.lean ====
/- The halving search over 32-bit words: after 31 steps the lower end is the last word that passes a test, or -1. -/
module

public import Idealize.ShloMosaic.PureOps.Ideal

@[expose] public section

namespace Cert.Search

open Idealize.ShloMosaic

/-- One step of the search by the test `T`. -/
def halve (T : BitVec 32 → BitVec 1) (p : BitVec 32 × BitVec 32) : BitVec 32 × BitVec 32 :=
  have mid : BitVec 32 := Scalar.addi p.1 (Scalar.divsi (Scalar.addi (Scalar.subi p.2 p.1) 1#32) 2#32)
  have c : BitVec 1 := T mid
  (Scalar.select c mid p.1, Scalar.select c p.2 (Scalar.subi mid 1#32))

/-- Reduction of a small integer modulo 2^32 into the signed range. -/
theorem bmod_small {z : ℤ} (h1 : -2147483648 ≤ z) (h2 : z < 2147483648) : z.bmod (2 ^ 32) = z := by
  rw [Int.bmod_def]; split <;> omega

theorem toInt_add {x y : BitVec 32} (h1 : -2147483648 ≤ x.toInt + y.toInt) (h2 : x.toInt + y.toInt < 2147483648) :
    (Scalar.addi x y).toInt = x.toInt + y.toInt := by
  show (x + y).toInt = _
  rw [BitVec.toInt_add, bmod_small h1 h2]

theorem toInt_sub {x y : BitVec 32} (h1 : -2147483648 ≤ x.toInt - y.toInt) (h2 : x.toInt - y.toInt < 2147483648) :
    (Scalar.subi x y).toInt = x.toInt - y.toInt := by
  show (x - y).toInt = _
  rw [BitVec.toInt_sub, bmod_small h1 h2]

/-- Halving a nonnegative word. -/
theorem toInt_half {x : BitVec 32} (h : 0 ≤ x.toInt) : (Scalar.divsi x 2#32).toInt = x.toInt / 2 := by
  have hc : ¬ IntOp.SDivCorner x 2#32 := by
    unfold IntOp.SDivCorner
    rintro (h | ⟨_, h⟩) <;> exact absurd h (by decide)
  show (IntOp.divsi .scalar x 2#32).toInt = _
  unfold IntOp.divsi
  rw [if_neg hc, BitVec.toInt_sdiv]
  have h2 : (2#32 : BitVec 32).toInt = 2 := by decide
  have hlt : x.toInt < 2147483648 := by have := BitVec.toInt_lt (x := x); norm_num at this; omega
  rw [h2, Int.tdiv_eq_ediv_of_nonneg h]
  exact bmod_small (by omega) (by omega)

/-- The word halfway up a bracket. -/
theorem toInt_mid {lo hi : BitVec 32} (h1 : -1 ≤ lo.toInt) (h2 : lo.toInt - 1 ≤ hi.toInt) (h3 : hi.toInt ≤ 2139095040) :
    (Scalar.addi lo (Scalar.divsi (Scalar.addi (Scalar.subi hi lo) 1#32) 2#32)).toInt
      = lo.toInt + (hi.toInt - lo.toInt + 1) / 2 := by
  have e1 : (1#32 : BitVec 32).toInt = 1 := by decide
  have a1 : (Scalar.subi hi lo).toInt = hi.toInt - lo.toInt := toInt_sub (by omega) (by omega)
  have a2 : (Scalar.addi (Scalar.subi hi lo) 1#32).toInt = hi.toInt - lo.toInt + 1 := by
    rw [toInt_add (by rw [a1, e1]; omega) (by rw [a1, e1]; omega), a1, e1]
  have a3 := toInt_half (x := Scalar.addi (Scalar.subi hi lo) 1#32) (by omega)
  rw [toInt_add (by rw [a3, a2]; omega) (by rw [a3, a2]; omega), a3, a2]

/-- What holds of the bracket when a further `m` halvings close it. -/
def Bracket (ok : ℤ → Prop) (m : ℕ) (p : BitVec 32 × BitVec 32) : Prop :=
  -1 ≤ p.1.toInt ∧ p.1.toInt ≤ 2139095040 ∧ p.1.toInt - 1 ≤ p.2.toInt ∧ p.2.toInt ≤ 2139095040 ∧
  p.2.toInt - p.1.toInt ≤ 2 ^ m - 1 ∧ (p.1.toInt = -1 ∨ ok p.1.toInt) ∧
  (max p.2.toInt p.1.toInt = 2139095040 ∨ ¬ ok (max p.2.toInt p.1.toInt + 1))

/-- A step keeps what holds and halves the bracket. -/
theorem Bracket.step {ok : ℤ → Prop} {T : BitVec 32 → BitVec 1}
    (hT : ∀ w : BitVec 32, 0 ≤ w.toInt → w.toInt ≤ 2139095040 → (T w = 1#1 ↔ ok w.toInt)) {m : ℕ} {p : BitVec 32 × BitVec 32}
    (h : Bracket ok (m + 1) p) : Bracket ok m (halve T p) := by
  obtain ⟨lo, hi⟩ := p
  obtain ⟨h1, h2, h3, h4, h5, h6, h7⟩ := h
  simp only at h1 h2 h3 h4 h5 h6 h7
  have hmid := toInt_mid h1 h3 h4
  have e1 : (1#32 : BitVec 32).toInt = 1 := by decide
  have hp : (2 : ℤ) ^ (m + 1) = 2 * 2 ^ m := by rw [pow_succ]; ring
  have hp0 : (1 : ℤ) ≤ 2 ^ m := one_le_pow₀ (by norm_num)
  unfold halve
  generalize hw : Scalar.addi lo (Scalar.divsi (Scalar.addi (Scalar.subi hi lo) 1#32) 2#32) = w at hmid
  have hpred : (Scalar.subi w 1#32).toInt = w.toInt - 1 := by
    rw [toInt_sub (by rw [e1]; omega) (by rw [e1]; omega), e1]
  unfold Bracket
  by_cases ht : T w = 1#1
  · have s1 : ∀ x y : BitVec 32, Scalar.select (T w) x y = x := fun x y => by
      rw [ht]; exact if_pos rfl
    simp only [hw, s1]
    refine ⟨by omega, by omega, by omega, by omega, by omega, ?_, ?_⟩
    · by_cases hwl : w.toInt = lo.toInt
      · rw [hwl]; exact h6
      · exact Or.inr ((hT w (by omega) (by omega)).mp ht)
    · by_cases hwl : w.toInt = lo.toInt
      · rw [hwl]; exact h7
      · have e2 : max hi.toInt w.toInt = max hi.toInt lo.toInt := by omega
        rw [e2]; exact h7
  · have s1 : ∀ x y : BitVec 32, Scalar.select (T w) x y = y := fun x y => if_neg ht
    simp only [hw, s1, hpred]
    refine ⟨h1, h2, by omega, by omega, by omega, h6, ?_⟩
    by_cases hwl : w.toInt = lo.toInt
    · have e2 : max (w.toInt - 1) lo.toInt = max hi.toInt lo.toInt := by omega
      rw [e2]; exact h7
    · have e2 : max (w.toInt - 1) lo.toInt + 1 = w.toInt := by omega
      rw [e2]
      exact Or.inr fun hok => ht ((hT w (by omega) (by omega)).mpr hok)

/-- Steps by every element of a list close the bracket by as many halvings. -/
theorem Bracket.foldl {ok : ℤ → Prop} {T : BitVec 32 → BitVec 1}
    (hT : ∀ w : BitVec 32, 0 ≤ w.toInt → w.toInt ≤ 2139095040 → (T w = 1#1 ↔ ok w.toInt)) {α : Type} (L : List α) :
    ∀ {p : BitVec 32 × BitVec 32}, Bracket ok L.length p → Bracket ok 0 (L.foldl (fun q _ => halve T q) p) := by
  induction L with
  | nil => exact fun h => h
  | cons a L ih => exact fun h => ih (h.step hT)

/-- The search's answer: the last word that passes, or -1 when 0 does not pass. -/
theorem search {ok : ℤ → Prop} {T : BitVec 32 → BitVec 1}
    (hT : ∀ w : BitVec 32, 0 ≤ w.toInt → w.toInt ≤ 2139095040 → (T w = 1#1 ↔ ok w.toInt)) {α : Type} (L : List α)
    (hL : L.length = 31) {w : BitVec 32} (hw : w = (L.foldl (fun q _ => halve T q) (4294967295#32, 2139095040#32)).1) :
    (w.toInt = -1 ∧ ¬ ok 0) ∨
      (0 ≤ w.toInt ∧ w.toInt ≤ 2139095040 ∧ ok w.toInt ∧ (w.toInt = 2139095040 ∨ ¬ ok (w.toInt + 1))) := by
  have h := Bracket.foldl hT L (p := (4294967295#32, 2139095040#32)) (by
    rw [hL]
    have e1 : (4294967295#32 : BitVec 32).toInt = -1 := by decide
    have e2 : (2139095040#32 : BitVec 32).toInt = 2139095040 := by decide
    refine ⟨?_, ?_, ?_, ?_, ?_, ?_, ?_⟩ <;> simp only [e1, e2] <;> norm_num)
  obtain ⟨h1, h2, h3, h4, h5, h6, h7⟩ := h
  rw [← hw] at h1 h2 h3 h5 h6 h7
  have e3 : max ((L.foldl (fun q _ => halve T q) (4294967295#32, 2139095040#32)).2).toInt w.toInt = w.toInt := by
    norm_num at h5; omega
  rw [e3] at h7
  rcases h6 with h6 | h6
  · left
    refine ⟨h6, ?_⟩
    rcases h7 with h7 | h7
    · omega
    · rw [h6] at h7; exact h7
  · by_cases hneg : w.toInt = -1
    · left
      refine ⟨hneg, ?_⟩
      rcases h7 with h7 | h7
      · omega
      · rw [hneg] at h7; exact h7
    · exact Or.inr ⟨by omega, h2, h6, h7⟩

end Cert.Search
-- ==== Proof.FinalRead.lean ====
/- The last grid point's result over the extended reals: its sums over the whole array, its bounds and its search, in
   terms of the losses and margins. -/
module

public import proofs.«01_k».proof.Proof.Rows
public import proofs.«01_k».proof.Proof.Literals
public import proofs.«01_k».proof.Proof.Parts
public import proofs.«01_k».proof.Proof.Halve

@[expose] public section

set_option maxRecDepth 16384

noncomputable section

namespace Cert.KernelIdeal.Hand

open Cert.KernelIdeal.Gen Cert.Selection
open Idealize.ShloMosaic
open scoped BigOperators

/-- The positions of the array of losses. -/
abbrev Pos := S8x2048.Idx

/-- The sum of an array as the kernel takes it. -/
def kSum {F : FTy → Type} [FloatOps F] (v : FVec F S8x2048 .f32) : F .f32 :=
  extractAt ![0, 0, 0] (shapeCast S1x1x1 (multiReduction .add [1, 2] S1 (shapeCast S1x8x2048 v shapeCasts_S8x2048_S1x8x2048)
    0x00000000#32 reduces_S1x8x2048_S1 (.inl rfl) rfl) shapeCasts_S1_S1x1x1) inpos_S1x1x1_p0_0_0

/-- The minimum of an array as the kernel takes it. -/
def kMin {F : FTy → Type} [FloatOps F] (v : FVec F S8x2048 .f32) : F .f32 :=
  extractAt ![0, 0, 0] (shapeCast S1x1x1 (multiReduction .minimumf [1, 2] S1 (shapeCast S1x8x2048 v shapeCasts_S8x2048_S1x8x2048)
    0x7F800000#32 reduces_S1x8x2048_S1 (.inl rfl) rfl) shapeCasts_S1_S1x1x1) inpos_S1x1x1_p0_0_0

theorem kSum_eq (v : FVec Ideal S8x2048 .f32) : kSum v = ∑ y : Pos, v y := by
  have h1 : kSum v = _ := Ideal.multiReduction_add_total (shapeCast S1x8x2048 v shapeCasts_S8x2048_S1x8x2048) 0x00000000#32
    reduces_S1x8x2048_S1 (by decide) (.inl rfl) rfl _
  rw [h1]
  exact Equiv.sum_comp (Shape.reshapeEquiv shapeCasts_S8x2048_S1x8x2048) v

theorem one_idx (j j' : S1.Idx) : j = j' := by
  funext b
  have : ∀ b : Fin S1.rank, S1.size b = 1 := by decide
  have h := this b
  have h1 := (j b).isLt
  have h2 := (j' b).isLt
  exact Fin.ext (by omega)

theorem filter_one {ι : Type} [Fintype ι] (g : ι → S1.Idx) (j : S1.Idx) :
    (Finset.univ.filter fun i => g i = j) = (Finset.univ : Finset ι) := by
  rw [Finset.filter_eq_self]
  exact fun i _ => one_idx _ _

/-- A minimum over every axis is the minimum of all the elements. -/
theorem min_total {F : FTy → Type} [FloatOps F] {φ : FTy} [Std.Commutative (FloatOps.minimumf (F := F) (φ := φ))]
    [Std.Associative (FloatOps.minimumf (F := F) (φ := φ))] {s t : Shape} {axes : List (Fin s.rank)} (src : FVec F s φ)
    (acc : BitVec φ.bits) (h : s.Reduces axes t) (ht : ∀ j j' : t.Idx, j = j') (hφ : FKind.Formats φ)
    (hacc : acc = FKind.minimumf.neutral φ hφ) (j : t.Idx) :
    multiReduction .minimumf axes t src acc h hφ hacc j
      = (Finset.univ : Finset s.Idx).fold FloatOps.minimumf (FloatOps.ofBits φ acc) src := by
  rw [multiReduction_minimumf_eq_fold, Finset.filter_eq_self.mpr fun i _ => ht _ _]

theorem kMin_gen {F : FTy → Type} [FloatOps F] [Std.Commutative (FloatOps.minimumf (F := F) (φ := .f32))]
    [Std.Associative (FloatOps.minimumf (F := F) (φ := .f32))] (v : FVec F S8x2048 .f32) :
    kMin v = (Finset.univ : Finset S1x8x2048.Idx).fold FloatOps.minimumf (FloatOps.ofBits .f32 0x7F800000#32)
      (shapeCast S1x8x2048 v shapeCasts_S8x2048_S1x8x2048) := by
  unfold kMin extractAt shapeCast
  generalize Shape.reshapeEquiv shapeCasts_S1_S1x1x1 = e
  generalize (fun j => v (Shape.reshapeEquiv shapeCasts_S8x2048_S1x8x2048 j)) = src
  have h0 : (0x7F800000#32 : BitVec 32) = FKind.minimumf.neutral .f32 (.inl rfl) := rfl
  have h1 := fun j => min_total src 0x7F800000#32 reduces_S1x8x2048_S1 one_idx (.inl rfl) h0 j
  exact h1 _

/-- The operations at the extended reals. -/
theorem ofBits_at (c : BitVec 32) : Scalar.ofBits (F := Ideal) .f32 c = Ideal.ofBits .f32 c := rfl
theorem ofBits_at' (c : BitVec 32) : FloatOps.ofBits (F := Ideal) .f32 c = Ideal.ofBits .f32 c := rfl
theorem addf_at (x y : Ideal .f32) : Scalar.addf x y = (x + y : EReal) := rfl
theorem subf_at (x y : Ideal .f32) : Scalar.subf x y = (x - y : EReal) := rfl
theorem mulf_at (x y : Ideal .f32) : Scalar.mulf x y = (x * y : EReal) := rfl
theorem divf_at (x y : Ideal .f32) : Scalar.divf x y = Ideal.div x y := rfl
theorem floor_at (x : Ideal .f32) : Scalar.floor x = Ideal.liftRound Int.floor x := rfl
theorem max_at (x y : Ideal .f32) : Scalar.maximumf x y = (max x y : EReal) := rfl
theorem min_at (x y : Ideal .f32) : Scalar.minimumf x y = (min x y : EReal) := rfl
theorem min_fun : (FloatOps.minimumf : Ideal .f32 → Ideal .f32 → Ideal .f32) = (min : EReal → EReal → EReal) := rfl
theorem cmp_at (p : CmpFPredicate) (x y : Ideal .f32) : Scalar.cmpf p x y = Ideal.cmp p x y := rfl

theorem kMin_eq (v : FVec Ideal S8x2048 .f32) :
    kMin v = (Finset.univ : Finset S1x8x2048.Idx).fold min ⊤ (shapeCast S1x8x2048 v shapeCasts_S8x2048_S1x8x2048) := by
  rw [kMin_gen, ofBits_at', Literals.inf]
  rfl

/-- The minimum is a lower bound, and above every lower bound. -/
theorem min_le (v : Pos → EReal) (y : Pos) :
    (Finset.univ : Finset S1x8x2048.Idx).fold min ⊤ (shapeCast S1x8x2048 v shapeCasts_S8x2048_S1x8x2048) ≤ v y := by
  rw [Finset.fold_min_le]
  refine Or.inr ⟨(Shape.reshapeEquiv shapeCasts_S8x2048_S1x8x2048).symm y, Finset.mem_univ _, le_of_eq ?_⟩
  unfold shapeCast
  rw [Equiv.apply_symm_apply]

theorem le_min (v : Pos → EReal) (b : EReal) (h : ∀ y, b ≤ v y) :
    b ≤ (Finset.univ : Finset S1x8x2048.Idx).fold min ⊤ (shapeCast S1x8x2048 v shapeCasts_S8x2048_S1x8x2048) := by
  rw [Finset.le_fold_min]
  exact ⟨le_top, fun i _ => h _⟩

section
variable {F : FTy → Type} [FloatOps F]

/-- The zero array the sums are masked with. -/
def zeros : FVec F S8x2048 .f32 := broadcast S8x2048 (Scalar.ofBits .f32 0x00000000#32)
def ones : FVec F S8x2048 .f32 := broadcast S8x2048 (Scalar.ofBits .f32 0x3F800000#32)

theorem pay4_gen (b : Vec F S8x2048 .f32) : k0_pay4 b = Scalar.addf (Scalar.ofBits .f32 0x464F5C29#32)
    (Scalar.mulf (Scalar.ofBits .f32 0x3F666666#32) (kSum (sitofp .f32 (extui 32 (cmpf .olt b zeros) natLt_1_32)))) := rfl

theorem pay6_gen (a : Vec F S8x2048 .f32) (lo hi : BitVec 32) : k0_pay6 a lo hi = kSum (select (cmpf .ole a
    (broadcast S8x2048 (Scalar.ofBits .f32 (Scalar.addi lo (Scalar.divsi (Scalar.addi (Scalar.subi hi lo) 1#32) 2#32)))))
    (addf a ones) zeros) := rfl

theorem pay13_gen (a : Vec F S8x2048 .f32) (x c : F .f32) (m : IVec S8x2048 1) (v : FVec F S1x1x1 .f32) :
    k0_pay13 a x m c v = Scalar.select (Scalar.cmpf .oge c (Scalar.ofBits .f32 0x46800000#32)) (Scalar.ofBits .f32 0x00000000#32)
      (Scalar.minimumf (kSum (select (cmpf .oeq a (broadcast S8x2048 (k0_pay12 a m))) ones zeros))
        (Scalar.maximumf (Scalar.ofBits .f32 0x00000000#32) (Scalar.addf (Scalar.floor (Scalar.divf
          (Scalar.subf (Scalar.subf (Scalar.subf x (k0_pay10 v)) c) (k0_pay12 a m))
          (Scalar.addf (k0_pay12 a m) (Scalar.ofBits .f32 0x3F800000#32)))) (Scalar.ofBits .f32 0x3F800000#32)))) := rfl

theorem pay15_gen (a : Vec F S8x2048 .f32) (m : IVec S8x2048 1) : k0_pay15 a m
    = Scalar.divf (Scalar.addf (k0_pay12 a m) (Scalar.ofBits .f32 0x2EDBE6FF#32)) (k0_pay12 a m) := rfl

theorem pay14_gen (a : Vec F S8x2048 .f32) (x c : F .f32) (m : IVec S8x2048 1) (v : FVec F S1x1x1 .f32) :
    k0_pay14 a x m c v = Scalar.addf (k0_pay10 v)
      (Scalar.select (Scalar.cmpf .ogt (k0_pay13 a x m c v) (Scalar.ofBits .f32 0x00000000#32))
        (Scalar.mulf (k0_pay13 a x m c v) (k0_pay12 a m)) (Scalar.ofBits .f32 0x00000000#32)) := rfl

theorem pay3_gen (x r t s q : F .f32) (c : BitVec 1) : k0_pay3 x r t s q c = broadcast S1x1
    (Scalar.mulf (Scalar.divf (Scalar.maximumf s (Scalar.subf x (Scalar.addf r (Scalar.select c (Scalar.mulf t q)
      (Scalar.ofBits .f32 0x00000000#32))))) (Scalar.ofBits .f32 0x46800000#32)) (Scalar.ofBits .f32 0x3DCCCCCD#32)) := rfl

end

/-- The threshold. -/
def thr (b : Pos → EReal) : EReal :=
  Ideal.ofBits .f32 0x464F5C29#32 + Ideal.ofBits .f32 0x3F666666#32 * ∑ y, if b y < 0 then (1 : EReal) else 0

theorem pay4_eq (b : Vec Ideal S8x2048 .f32) : k0_pay4 b = thr b := by
  rw [pay4_gen, kSum_eq, addf_at, mulf_at, ofBits_at, ofBits_at]
  unfold thr
  refine congrArg (fun z : EReal => Ideal.ofBits .f32 0x464F5C29#32 + Ideal.ofBits .f32 0x3F666666#32 * z) ?_
  refine Finset.sum_congr rfl fun y _ => ?_
  show ((((Ideal.cmp .olt (b y) (Ideal.ofBits .f32 0x00000000#32)).setWidth 32).toInt : ℝ) : EReal) = _
  rw [Literals.bit_signed, Ideal.ofBits_zero_f32]
  simp only [Literals.cmp_olt]

/-- The test's bound. -/
theorem pay5_eq (b : Vec Ideal S8x2048 .f32) : k0_pay5 b = thr b + 1 := by
  have h : k0_pay5 b = Scalar.addf (k0_pay4 b) (Scalar.ofBits .f32 0x3F800000#32) := rfl
  rw [h, pay4_eq]
  show thr b + Ideal.ofBits .f32 0x3F800000#32 = _
  rw [Literals.one]

/-- The value tested at a word: the losses at or below the float it denotes, each increased by one. -/
def tested (a : Pos → EReal) (w : BitVec 32) : EReal := ∑ y, if a y ≤ Ideal.ofBits .f32 w then a y + 1 else 0

/-- A select by a comparison's bit. -/
theorem select_apply {α : Type} {s : Shape} (c : IVec s 1) (x z : s.Idx → α) (y : s.Idx) :
    select c x z y = if c y = 1#1 then x y else z y := rfl

theorem pay6_eq (a : Vec Ideal S8x2048 .f32) (lo hi : BitVec 32) :
    k0_pay6 a lo hi = tested a (Scalar.addi lo (Scalar.divsi (Scalar.addi (Scalar.subi hi lo) 1#32) 2#32)) := by
  rw [pay6_gen, kSum_eq]
  unfold tested
  refine Finset.sum_congr rfl fun y _ => ?_
  rw [select_apply]
  show (if Ideal.cmp .ole (a y) (Ideal.ofBits .f32 _) = 1#1 then a y + Ideal.ofBits .f32 0x3F800000#32
    else Ideal.ofBits .f32 0x00000000#32) = _
  rw [Literals.one, Ideal.ofBits_zero_f32]
  simp only [Literals.cmp_ole]

/-- The kernel's step is the halving step by that test. -/
theorem cutStep_eq (a b : Vec Ideal S8x2048 .f32) (p : BitVec 32 × BitVec 32) :
    cutStep a b p = Search.halve (fun w => Ideal.cmp .ole (tested a w) (thr b + 1)) p := by
  unfold cutStep Search.halve
  rw [pay6_eq, pay5_eq]
  rfl

theorem cutWord_eq (a b : Vec Ideal S8x2048 .f32) :
    cutWord a b = ((List.finRange k0_t1_loop.trips).foldl
      (fun q _ => Search.halve (fun w => Ideal.cmp .ole (tested a w) (thr b + 1)) q) (4294967295#32, 2139095040#32)).1 := by
  unfold cutWord
  rw [Scf.fold_eq]
  simp only [cutStep_eq]

theorem trips_eq : (List.finRange k0_t1_loop.trips).length = 31 := by
  rw [List.length_finRange]; decide

/-- The elements within the cut. -/
def inCut (a : Pos → EReal) (w : BitVec 32) (y : Pos) : Prop :=
  0 ≤ w.toInt ∧ a y ≤ Ideal.ofBits .f32 w

theorem pay7_eq (a : Vec Ideal S8x2048 .f32) (w : BitVec 32) (y : Pos) : k0_pay7 a w y = 1#1 ↔ inCut a w y := by
  have h1 : k0_pay7 a w y = IntOp.andi (Ideal.cmp .ole (a y) (Ideal.ofBits .f32 (Scalar.maxsi w 0#32)))
      (Scalar.xori (Scalar.cmpi .slt w 0#32) 1#1) := rfl
  rw [h1]
  unfold inCut
  by_cases hw : 0 ≤ w.toInt
  · have e1 : Scalar.maxsi w 0#32 = w := by
      show (if (0#32 : BitVec 32).slt w then w else 0#32) = w
      split
      · rfl
      · next h =>
        rw [BitVec.slt_iff_toInt_lt] at h
        have : w.toInt = (0#32 : BitVec 32).toInt := by
          have : (0#32 : BitVec 32).toInt = 0 := by decide
          omega
        exact (BitVec.eq_of_toInt_eq this).symm
    have e2 : Scalar.cmpi .slt w 0#32 = 0#1 := by
      show BitVec.ofBool (w.slt 0#32) = 0#1
      have : w.slt 0#32 = false := by
        rw [Bool.eq_false_iff, Ne, BitVec.slt_iff_toInt_lt]
        have : (0#32 : BitVec 32).toInt = 0 := by decide
        omega
      rw [this]; rfl
    rw [e1, e2]
    have e3 : Scalar.xori 0#1 1#1 = 1#1 := by decide
    have e4 : ∀ c : BitVec 1, IntOp.andi c 1#1 = c := by decide
    rw [e3, e4, Literals.cmp_ole]
    exact ⟨fun h => ⟨hw, h⟩, fun h => h.2⟩
  · have e2 : Scalar.cmpi .slt w 0#32 = 1#1 := by
      show BitVec.ofBool (w.slt 0#32) = 1#1
      have : w.slt 0#32 = true := by
        rw [BitVec.slt_iff_toInt_lt]
        have : (0#32 : BitVec 32).toInt = 0 := by decide
        omega
      rw [this]; rfl
    rw [e2]
    have e3 : Scalar.xori 1#1 1#1 = 0#1 := by decide
    have e4 : ∀ c : BitVec 1, IntOp.andi c 0#1 = 0#1 := by decide
    rw [e3, e4]
    exact ⟨fun h => absurd h (by decide), fun h => absurd h.1 hw⟩

/-- The ratio of a loss raised by a small constant to the loss. -/
def ratio (x : EReal) : EReal := Ideal.div (x + Ideal.ofBits .f32 0x2EDBE6FF#32) x

open Classical in
/-- The least loss outside the cut. -/
def nextVal (a : Pos → EReal) (w : BitVec 32) : EReal :=
  (Finset.univ : Finset S1x8x2048.Idx).fold min ⊤
    (shapeCast S1x8x2048 (fun y => if inCut a w y then ⊤ else a y) shapeCasts_S8x2048_S1x8x2048)

open Classical in
/-- The number of copies taken of it. -/
def taken (a b : Pos → EReal) (w : BitVec 32) : EReal :=
  copiesOf (thr b) (∑ y, if inCut a w y then a y else 0) (∑ y, if inCut a w y then 1 else 0) (nextVal a w)
    (∑ y, if a y = nextVal a w then 1 else 0) ((16384 : ℝ) : EReal)

open Classical in
/-- The sum of `f` over the selected losses, as the kernel takes it. -/
def selSum (f : EReal → EReal) (a b : Pos → EReal) (w : BitVec 32) : EReal :=
  (∑ y, if inCut a w y then f (a y) else 0) + (if 0 < taken a b w then taken a b w * f (nextVal a w) else 0)

section
open Classical

theorem pay8_eq (a : Vec Ideal S8x2048 .f32) (w : BitVec 32) : k0_pay8 a w = ∑ y, if inCut a w y then (1 : EReal) else 0 := by
  have h : k0_pay8 a w = kSum (select (k0_pay7 a w) (broadcast S8x2048 (Scalar.ofBits .f32 0x3F800000#32))
    (broadcast S8x2048 (Scalar.ofBits .f32 0x00000000#32))) := rfl
  rw [h, kSum_eq]
  refine Finset.sum_congr rfl fun y _ => ?_
  rw [select_apply]
  show (if k0_pay7 a w y = 1#1 then Ideal.ofBits .f32 0x3F800000#32 else Ideal.ofBits .f32 0x00000000#32) = _
  rw [Literals.one, Ideal.ofBits_zero_f32]
  simp only [pay7_eq]

theorem pay10_eq (a : Vec Ideal S8x2048 .f32) (w : BitVec 32) :
    k0_pay10 (k0_pay9 a w) = ∑ y, if inCut a w y then a y else 0 := by
  have h : k0_pay10 (k0_pay9 a w) = kSum (select (k0_pay7 a w) a (broadcast S8x2048 (Scalar.ofBits .f32 0x00000000#32))) := rfl
  rw [h, kSum_eq]
  refine Finset.sum_congr rfl fun y _ => ?_
  rw [select_apply]
  show (if k0_pay7 a w y = 1#1 then a y else Ideal.ofBits .f32 0x00000000#32) = _
  rw [Ideal.ofBits_zero_f32]
  simp only [pay7_eq]

theorem pay11_eq (a : Vec Ideal S8x2048 .f32) (w : BitVec 32) :
    k0_pay11 a (k0_pay7 a w) = ∑ y, if inCut a w y then ratio (a y) else 0 := by
  have h : k0_pay11 a (k0_pay7 a w) = kSum (select (k0_pay7 a w)
    (divf (addf a (broadcast S8x2048 (Scalar.ofBits .f32 0x2EDBE6FF#32))) a)
    (broadcast S8x2048 (Scalar.ofBits .f32 0x00000000#32))) := rfl
  rw [h, kSum_eq]
  refine Finset.sum_congr rfl fun y _ => ?_
  rw [select_apply]
  show (if k0_pay7 a w y = 1#1 then ratio (a y) else Ideal.ofBits .f32 0x00000000#32) = _
  rw [Ideal.ofBits_zero_f32]
  simp only [pay7_eq]

theorem pay12_eq (a : Vec Ideal S8x2048 .f32) (w : BitVec 32) : k0_pay12 a (k0_pay7 a w) = nextVal a w := by
  have h : k0_pay12 a (k0_pay7 a w) = kMin (select (k0_pay7 a w) (broadcast S8x2048 (Scalar.ofBits .f32 0x7F800000#32)) a) := rfl
  have h2 : select (k0_pay7 a w) (broadcast S8x2048 (Scalar.ofBits (F := Ideal) .f32 0x7F800000#32)) a
      = fun y => if inCut a w y then ⊤ else a y := by
    funext y
    rw [select_apply]
    show (if k0_pay7 a w y = 1#1 then Ideal.ofBits .f32 0x7F800000#32 else a y) = _
    rw [Literals.inf]
    simp only [pay7_eq]
  rw [h, h2, kMin_eq]
  rfl

theorem pay13_eq (a b : Vec Ideal S8x2048 .f32) (w : BitVec 32) :
    k0_pay13 a (k0_pay4 b) (k0_pay7 a w) (k0_pay8 a w) (k0_pay9 a w) = taken a b w := by
  rw [pay13_gen, pay12_eq, pay10_eq, pay8_eq, pay4_eq, kSum_eq]
  have hmn : (∑ y : Pos, (select (cmpf (F := Ideal) (φ := .f32) .oeq a (broadcast S8x2048 (nextVal a w : Ideal .f32)))
      (ones (F := Ideal)) (zeros (F := Ideal)) y : EReal)) = ∑ y, if a y = nextVal a w then (1 : EReal) else 0 := by
    refine Finset.sum_congr rfl fun y _ => ?_
    rw [select_apply]
    show (if Ideal.cmp .oeq (a y) (nextVal a w) = 1#1 then Ideal.ofBits .f32 0x3F800000#32
      else Ideal.ofBits .f32 0x00000000#32) = _
    rw [Literals.one, Ideal.ofBits_zero_f32]
    simp only [Literals.cmp_oeq]
  rw [hmn]
  simp only [ofBits_at, addf_at, subf_at, divf_at, floor_at, max_at, min_at, cmp_at, Literals.one, Ideal.ofBits_zero_f32,
    Literals.count]
  unfold taken copiesOf
  exact if_congr Literals.cmp_oge rfl rfl

theorem pay14_eq (a b : Vec Ideal S8x2048 .f32) (w : BitVec 32) :
    k0_pay14 a (k0_pay4 b) (k0_pay7 a w) (k0_pay8 a w) (k0_pay9 a w) = selSum (fun x => x) a b w := by
  rw [pay14_gen, pay13_eq, pay12_eq, pay10_eq]
  simp only [ofBits_at, addf_at, mulf_at, cmp_at, Ideal.ofBits_zero_f32]
  unfold selSum
  exact congrArg (_ + ·) (if_congr Literals.cmp_ogt rfl rfl)

/-- The result: the greater of the selected losses' sum and the threshold less their ratios' sum, scaled. -/
theorem finalOut_eq (a b : Vec Ideal S8x2048 .f32) (j : S1x1.Idx) :
    finalOut a b j = Ideal.div (max (selSum (fun x => x) a b (cutWord a b)) (thr b - selSum ratio a b (cutWord a b)))
      ((16384 : ℝ) : EReal) * Ideal.ofBits .f32 0x3DCCCCCD#32 := by
  have h15 : k0_pay15 a (k0_pay7 a (cutWord a b)) = ratio (nextVal a (cutWord a b)) := by
    rw [pay15_gen, pay12_eq, divf_at, addf_at, ofBits_at]
    rfl
  unfold finalOut
  rw [pay3_gen, h15, pay14_eq, pay13_eq, pay11_eq, pay4_eq]
  simp only [ofBits_at, addf_at, subf_at, divf_at, mulf_at, max_at, cmp_at, Ideal.ofBits_zero_f32, Literals.count]
  have h4 : ∀ u v : EReal, Scalar.select (Ideal.cmp .ogt u 0) (u * v) 0 = if 0 < u then u * v else 0 :=
    fun _ _ => if_congr Literals.cmp_ogt rfl rfl
  rw [h4]
  rfl

end

end Cert.KernelIdeal.Hand

end
-- ==== Proof.Cut.lean ====
/- Where a cut found among a grid of values lies in the ordered list: the elements at or below it are a prefix of the
   greedy selection, and the selected elements past it are equal when no selected element but the largest comes within
   a grid step of the first rejected one. -/
module

public import proofs.«01_k».proof.Proof.Select
public import Mathlib.Data.EReal.Basic
public import Mathlib.Data.EReal.Operations

@[expose] public section

noncomputable section

namespace Cert.Selection

open scoped BigOperators

/-- The sum of the elements at or below `v`, each increased by one. -/
def below {n : ℕ} (s : Fin n → ℝ) (v : EReal) : ℝ := by
  classical exact ∑ i : Fin n, if (s i : EReal) ≤ v then s i + 1 else 0

/-- The elements at or below a cut are a prefix of sum `below`. -/
theorem below_eq_pre {n : ℕ} {s : Fin n → ℝ} {v : EReal} {c : ℕ} (h : ∀ i : Fin n, (s i : EReal) ≤ v ↔ i.val < c) :
    below s v = pre s c := by
  unfold below pre
  refine Finset.sum_congr rfl fun i _ => ?_
  by_cases hi : i.val < c
  · rw [if_pos hi, if_pos ((h i).mpr hi)]
  · rw [if_neg hi, if_neg (fun h' => hi ((h i).mp h'))]

/-- If every element at or below `v` is selected, `v` passes the test. -/
theorem below_le {n : ℕ} {s : Fin n → ℝ} (h0 : ∀ i, 0 ≤ s i) {v : EReal} {k : ℕ}
    (h : ∀ i : Fin n, (s i : EReal) ≤ v → i.val < k) : below s v ≤ pre s k := by
  classical
  exact sum_le_pre h0 (fun i => (s i : EReal) ≤ v) h

/-- What the search for the cut hands on: either nothing passes, or the largest grid value that does. -/
def CutAt {n : ℕ} (s : Fin n → ℝ) (val : ℕ → EReal) (H : ℕ) (t1 : ℝ) (sel : Fin n → Prop) : Prop :=
  ((∀ i, ¬ sel i) ∧ t1 < below s (val 0)) ∨
  ∃ p ≤ H, (∀ i, sel i ↔ (s i : EReal) ≤ val p) ∧ below s (val p) ≤ t1 ∧ (p = H ∨ t1 < below s (val (p + 1)))

/-- The cut's prefix within the selection, and the equal elements between its end and the selection's. -/
theorem cut_prefix {n : ℕ} {s : Fin n → ℝ} (h0 : ∀ i, 0 ≤ s i) (hmono : Monotone s) {thr : ℝ} {k : ℕ} (hk : k ≤ n)
    (hmask : ∀ i : Fin n, pre s (i.val + 1) ≤ thr + 1 ↔ i.val < k)
    {val : ℕ → EReal} {H : ℕ} (hval0 : val 0 = 0) (hvalH : val H = ⊤) {e d : ℝ} (he : 0 ≤ e)
    (hgap : ∀ p < H, ∃ a : ℝ, val p = (a : EReal) ∧ (thr ≤ a ∨ ∃ b : ℝ, val (p + 1) = (b : EReal) ∧ b ≤ a + (e * a + d)))
    {sel : Fin n → Prop} (hcut : CutAt s val H (thr + 1) sel)
    (hpre : ∀ (hkn : k < n) (i j : Fin n), i.val < k → j.val < k → s ⟨k, hkn⟩ - s i < e * s ⟨k, hkn⟩ + d →
      s ⟨k, hkn⟩ - s j < e * s ⟨k, hkn⟩ + d → s i = s j) :
    ∃ c ≤ k, (∀ i, sel i ↔ i.val < c) ∧ ∀ hc : c < n, (∀ i : Fin n, i.val < c → s i < s ⟨c, hc⟩) ∧
      ∀ i : Fin n, c ≤ i.val → i.val < k → s i = s ⟨c, hc⟩ := by
  classical
  -- a prefix sum within the selection passes
  have hpk : 0 < k → pre s k ≤ thr + 1 := by
    intro hk0
    have h := (hmask ⟨k - 1, by omega⟩).mpr (by show k - 1 < k; omega)
    simpa only [Nat.sub_add_cancel hk0] using h
  rcases hcut with ⟨hnone, hbig⟩ | ⟨p, hpH, hsel, hok, hnext⟩
  · refine ⟨0, Nat.zero_le _, fun i => ⟨fun h => absurd h (hnone i), fun h => absurd h (Nat.not_lt_zero _)⟩,
      fun hc => ⟨fun i hi => absurd hi (Nat.not_lt_zero _), fun i _ hik => ?_⟩⟩
    have hz : ∀ j : Fin n, j.val < k → s j = 0 := by
      intro j hj
      by_contra hne
      have hpos : 0 < s j := lt_of_le_of_ne (h0 j) (Ne.symm hne)
      have : below s (val 0) ≤ pre s (j.val + 1) := by
        refine below_le h0 fun i hi => ?_
        rw [hval0] at hi
        have hi' : s i ≤ 0 := by exact_mod_cast hi
        by_contra hlt
        have := hmono (show j ≤ i from Fin.le_def.mpr (by omega))
        linarith
      have := (hmask j).mpr hj
      linarith
    rw [hz i hik, hz ⟨0, hc⟩ (by show 0 < k; omega)]
  · obtain ⟨c, hcn, hc⟩ := exists_prefix (fun i => (s i : EReal) ≤ val p)
      (fun i j hij hj => le_trans (by exact_mod_cast hmono hij) hj)
    have hbp : below s (val p) = pre s c := below_eq_pre hc
    have hck : c ≤ k := by
      rcases Nat.eq_zero_or_pos c with h | h
      · omega
      · have hle : pre s (c - 1 + 1) ≤ thr + 1 := by rw [Nat.sub_add_cancel h, ← hbp]; exact hok
        have := (hmask ⟨c - 1, by omega⟩).mp hle
        have : c - 1 < k := this
        omega
    refine ⟨c, hck, fun i => (hsel i).trans (hc i), fun hcn' => ⟨fun i hi => ?_, ?_⟩⟩
    · have h1 := (hc i).mpr hi
      have h2 : ¬ (s ⟨c, hcn'⟩ : EReal) ≤ val p := fun h => absurd ((hc ⟨c, hcn'⟩).mp h) (lt_irrefl c)
      have := lt_of_le_of_lt h1 (not_le.mp h2)
      exact_mod_cast this
    · intro i hci hik
      have hpH' : p ≠ H := by
        intro h
        have := (hc ⟨c, hcn'⟩).mp (by rw [h, hvalH]; exact le_top)
        exact absurd this (lt_irrefl c)
      have hnext' : thr + 1 < below s (val (p + 1)) := hnext.resolve_left hpH'
      have hk0 : 0 < k := by omega
      obtain ⟨a, ha, hgap'⟩ := hgap p (lt_of_le_of_ne hpH hpH')
      -- a selected element past the cut exceeds it
      have habove : ∀ j : Fin n, c ≤ j.val → a < s j := by
        intro j hj
        have h2 : ¬ (s j : EReal) ≤ val p := fun h => absurd ((hc j).mp h) (by omega)
        rw [ha] at h2
        exact_mod_cast not_le.mp h2
      have hkn : k < n := by
        rcases Nat.lt_or_eq_of_le hk with h | h
        · exact h
        · exfalso
          have : below s (val (p + 1)) ≤ pre s k := below_le h0 fun i _ => by rw [h]; exact i.isLt
          have := hpk hk0
          linarith
      have hb : ∃ b : ℝ, val (p + 1) = (b : EReal) ∧ b ≤ a + (e * a + d) := by
        rcases hgap' with h | h
        · exfalso
          have h1 := habove i hci
          have h2 := (hmask i).mpr hik
          have h3 := le_pre h0 i
          linarith
        · exact h
      obtain ⟨b, hb1, hb2⟩ := hb
      have hsk : s ⟨k, hkn⟩ ≤ b := by
        by_contra hgt
        have : below s (val (p + 1)) ≤ pre s k := by
          refine below_le h0 fun j hj => ?_
          rw [hb1] at hj
          have hj' : s j ≤ b := by exact_mod_cast hj
          by_contra hlt
          have := hmono (show (⟨k, hkn⟩ : Fin n) ≤ j from Fin.le_def.mpr (by show k ≤ j.val; omega))
          push Not at hgt
          linarith
        have := hpk hk0
        linarith
      have hask : a < s ⟨k, hkn⟩ := habove ⟨k, hkn⟩ hck
      have hea : e * a ≤ e * s ⟨k, hkn⟩ := mul_le_mul_of_nonneg_left hask.le he
      have hnear : ∀ j : Fin n, c ≤ j.val → s ⟨k, hkn⟩ - s j < e * s ⟨k, hkn⟩ + d := by
        intro j hj
        have := habove j hj
        linarith
      exact hpre hkn i ⟨c, hcn'⟩ hik (by show c < k; omega) (hnear i hci) (hnear ⟨c, hcn'⟩ (le_refl c))

end Cert.Selection

end
-- ==== Proof.FinalValue.lean ====
/- The last grid point's sums over its cut, as sums over the first elements of the sorted losses. -/
module

public import proofs.«01_k».proof.Proof.FinalRead
public import proofs.«01_k».proof.Proof.Cut

@[expose] public section

noncomputable section

namespace Cert.KernelIdeal.Hand

open Cert.KernelIdeal.Gen Cert.Selection
open Idealize.ShloMosaic
open scoped BigOperators

/-- The threshold is a real of moderate size. -/
theorem thr_real (b : Pos → EReal) : ∃ t : ℝ, thr b = (t : EReal) ∧ t ≤ 2 ^ 100 := by
  classical
  obtain ⟨r1, r2, h1, h1', h2, h2', e1, e2⟩ := Literals.thr_lits
  refine ⟨r1 + r2 * ∑ y : Pos, if b y < 0 then (1 : ℝ) else 0, ?_, ?_⟩
  · unfold thr
    rw [e1, e2, EReal.coe_add, EReal.coe_mul, coe_sum]
    refine congrArg (fun z : EReal => (r1 : EReal) + r2 * z) (Finset.sum_congr rfl fun y _ => ?_)
    split <;> simp
  · have hc : (∑ y : Pos, if b y < 0 then (1 : ℝ) else 0) ≤ 16384 := by
      calc (∑ y : Pos, if b y < 0 then (1 : ℝ) else 0) ≤ ∑ y : Pos, (1 : ℝ) := by
            refine Finset.sum_le_sum fun y _ => ?_
            split <;> norm_num
        _ = 16384 := by
            rw [Finset.sum_const, Finset.card_univ, nsmul_eq_mul, mul_one]
            have : Fintype.card Pos = 16384 := by
              rw [Fintype.card_congr S8x2048.rowMajor, Fintype.card_fin]; rfl
            rw [this]; norm_num
    have hc0 : 0 ≤ (∑ y : Pos, if b y < 0 then (1 : ℝ) else 0) := Finset.sum_nonneg fun y _ => by split <;> norm_num
    have : r2 * (∑ y : Pos, if b y < 0 then (1 : ℝ) else 0) ≤ 1 * 16384 := mul_le_mul h2' hc hc0 (by norm_num)
    calc r1 + r2 * (∑ y : Pos, if b y < 0 then (1 : ℝ) else 0) ≤ 16384 + 1 * 16384 := add_le_add h1' this
      _ ≤ 2 ^ 100 := by norm_num

variable {s : Fin 16384 → ℝ} {a b : Pos → EReal} (e : Pos ≃ Fin 16384)

/-- A word that is not negative denotes the grid's value at its number. -/
theorem val_word {w : BitVec 32} (h : 0 ≤ w.toInt) : Ideal.ofBits .f32 w = FloatGap.val w.toInt.toNat := by
  unfold FloatGap.val
  congr 1
  apply BitVec.eq_of_toNat_eq
  rw [BitVec.toNat_ofNat]
  have := w.isLt
  rw [BitVec.toInt_eq_toNat_cond] at h ⊢
  split at h <;> omega

/-- The value tested is the sum of the elements at or below the grid's value. -/
theorem tested_eq (ha : ∀ y, a y = (s (e y) : EReal)) (w : BitVec 32) (h : 0 ≤ w.toInt) :
    tested a w = (below s (FloatGap.val w.toInt.toNat) : EReal) := by
  classical
  unfold tested below
  rw [val_word h, coe_sum, ← Equiv.sum_comp e]
  refine Finset.sum_congr rfl fun y _ => ?_
  rw [ha y]
  split <;> simp

/-- The kernel's word stands at the cut. -/
theorem cut_at (ha : ∀ y, a y = (s (e y) : EReal)) {t : ℝ} (ht : thr b = (t : EReal)) :
    CutAt s FloatGap.val 2139095040 (t + 1) (fun i => inCut a (cutWord (F := Ideal) a b) (e.symm i)) := by
  have hT : ∀ w : BitVec 32, 0 ≤ w.toInt → w.toInt ≤ 2139095040 →
      (Ideal.cmp .ole (tested a w) (thr b + 1) = 1#1 ↔ below s (FloatGap.val w.toInt.toNat) ≤ t + 1) := by
    intro w h _
    rw [Literals.cmp_ole, tested_eq e ha w h, ht]
    have : ((t : EReal) + 1) = ((t + 1 : ℝ) : EReal) := by push_cast; rfl
    rw [this, EReal.coe_le_coe_iff]
  have hs := Search.search (ok := fun z => below s (FloatGap.val z.toNat) ≤ t + 1) hT _ trips_eq (cutWord_eq a b)
  rcases hs with ⟨h1, h2⟩ | ⟨h1, h2, h3, h4⟩
  · left
    refine ⟨fun i h => ?_, not_le.mp h2⟩
    have := h.1
    omega
  · right
    refine ⟨(cutWord (F := Ideal) a b).toInt.toNat, by omega, fun i => ?_, h3, ?_⟩
    · unfold inCut
      show (0 ≤ _ ∧ a (e.symm i) ≤ _) ↔ _
      rw [val_word h1, ha (e.symm i), Equiv.apply_symm_apply]
      exact ⟨fun h => h.2, fun h => ⟨h1, h⟩⟩
    · rcases h4 with h4 | h4
      · left; omega
      · right
        have : ((cutWord (F := Ideal) a b).toInt + 1).toNat = (cutWord (F := Ideal) a b).toInt.toNat + 1 := by omega
        simpa only [this, not_le] using h4

/-- The kernel's sum of `f` over its cut and the copies beyond it is the sum over the first `k` sorted losses. -/
theorem selSum_eq (h0 : ∀ i, 0 ≤ s i) (hmono : Monotone s) (ha : ∀ y, a y = (s (e y) : EReal)) {t : ℝ}
    (ht : thr b = (t : EReal)) {k : ℕ} (hk : k ≤ 16384) (hmask : ∀ i : Fin 16384, pre s (i.val + 1) ≤ t + 1 ↔ i.val < k)
    (hpre : ∀ (hkn : k < 16384) (i j : Fin 16384), i.val < k → j.val < k →
      s ⟨k, hkn⟩ - s i < (2 : ℝ) ^ (-23 : ℤ) * s ⟨k, hkn⟩ + (2 : ℝ) ^ (-126 : ℤ) →
      s ⟨k, hkn⟩ - s j < (2 : ℝ) ^ (-23 : ℤ) * s ⟨k, hkn⟩ + (2 : ℝ) ^ (-126 : ℤ) → s i = s j) (f : EReal → EReal) :
    selSum f a b (cutWord (F := Ideal) a b) = ∑ i : Fin 16384, if i.val < k then f (s i) else 0 := by
  classical
  have htb : t ≤ 2 ^ 100 := by
    obtain ⟨t', h1, h2⟩ := thr_real b
    rw [ht] at h1
    rw [EReal.coe_eq_coe_iff.mp h1]; exact h2
  obtain ⟨c, hck, hsel, hc⟩ := cut_prefix h0 hmono hk hmask FloatGap.val_zero FloatGap.val_top (by positivity)
    (FloatGap.gap htb) (cut_at e ha ht) hpre
  refine parts h0 hmono hck hk hmask hc e a ha (fun y => inCut a (cutWord (F := Ideal) a b) y)
    (fun y => by rw [← hsel (e y), Equiv.symm_apply_apply]) (nextVal a (cutWord (F := Ideal) a b)) (fun y => min_le _ y)
    (fun b' h => le_min _ b' h) f (taken a b (cutWord (F := Ideal) a b)) ?_
  unfold taken
  rw [ht]
  norm_num

end Cert.KernelIdeal.Hand

end
-- ==== Proof.KernelRun.lean ====
/- The kernel's run with its value, at any float instance: the result is the last grid point's, and the blocks the losses and
   margins are computed from are read off the arguments. -/
module

public import proofs.«01_k».proof.Proof.Launch
public import Idealize.ShloMosaic.Lib.ValueIdx

@[expose] public section

set_option maxRecDepth 16384

noncomputable section

namespace Cert.KernelIdeal.Hand

open Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The last grid point. -/
def tLast : Fin cfg0.N := pt 7

/-- The result array, read through its one block, is what the last point wrote back. -/
theorem final_out (c : Dev nD) :
    ((cfg0.win (2 : Fin 3)).blk tLast).view.read (Elt F) ((dats (F := F) m 0 c).arrAt (2 : Fin 3) cfg0.N)
      = (dats (F := F) m 0 c).flushed (2 : Fin 3) tLast := by
  have hN : cfg0.N = (tLast : Fin cfg0.N).val + 1 := N_0
  have hf : (cfg0.win (2 : Fin 3)).flush tLast = true := (flush0_2 tLast).mpr rfl
  rw [hN, (dats (F := F) m 0 c).arrAt_succ (2 : Fin 3) tLast, hf, if_pos rfl]
  exact View.read_write_univ _ _

/-- The result array after the run. -/
theorem final_value (c : Dev nD) :
    (dats (F := F) m 0 c).arrAt (2 : Fin 3) cfg0.N = finalOut (lossAll m c) (marginAll m c) := by
  have ho := final_out (F := F) m c
  have hz : (fun a => (win0_2.index tLast) a * main_v3.ty.shape.size a) = fun _ => 0 :=
    funext fun a => by fin_cases a <;> rfl
  have hr := fun f => Memref.read_access_unit_zero (Elt F) main_v3 hz (fun a => by fin_cases a <;> decide) f
  refine ((hr _).symm.trans ho).trans ?_
  show (cfg0.win (2 : Fin 3)).cut _ ((dats (F := F) m 0 c).after 2 tLast) = _
  rw [after0_2]
  rfl

/-- The scalar result: the one element of the result array. -/
theorem tail_value (c : Dev nD) : Pipeline.afterTail₀ cfgs (dats m) 0 (V0 m) [hostOps1] c main_v4
    = shapeCast S_ (finalOut (lossAll m c) (marginAll m c)) shapeCasts_S1x1_S_ := by
  have h := Pipeline.withArrays_arr spec0 winFacts0.arr_inj c (V0 m c) (fun w => (dats m 0 c).arrAt w cfg0.N) 2
  unfold Pipeline.afterTail₀
  simp only [hostOps1, List.flatten_cons, List.flatten_nil, List.append_nil, StableHlo.after_cons, StableHlo.after_nil]
  rw [StableHlo.reshape_result]
  funext i
  rw [← final_value m c, ← h]
  rfl

/-- The run: the result, and the arguments unchanged. -/
theorem run_value : θ_run defs (onTc (τ := τ) (main (F := F))) ⟨m, fun _ => 0, ρ⟩ (fun r => ∀ c : Dev nD,
      r.2.mem ((c.tc : Thread nD τ).loc main_v4) = shapeCast S_ (finalOut (lossAll m c) (marginAll m c)) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h.1 c).2 main_v4 (Pipeline.mem_restRefs_of main_v4 (by decide) (by decide))).trans (tail_value m c),
     ((h.1 c).2 main_arg0 (Pipeline.mem_restRefs_of main_arg0 (by decide) (by decide))).trans (W_main_arg0 m (dats m) c),
     ((h.1 c).2 main_arg1 (Pipeline.mem_restRefs_of main_arg1 (by decide) (by decide))).trans (W_main_arg1 m (dats m) c)⟩)
    (run_main m ρ)

/-- The region finds the transpose of the scores. -/
theorem V_main_v0 (c : Dev nD) : V m c main_v0
    = transpose S1000x16384 [1, 0] (m ((c : Thread nD τ).loc main_arg0)) transposes_S16384x1000_S1000x16384_1_0 := by
  unfold V V0
  simp only [hostOps0, List.flatten_cons, List.flatten_nil, List.append_nil]
  after_results

/-- And the targets as floats, as one row. -/
theorem V_main_v2 (c : Dev nD) : V m c main_v2
    = shapeCast S1x16384 (sitofp .f32 (m ((c : Thread nD τ).loc main_arg1)) : FVec F S16384 .f32) shapeCasts_S16384_S1x16384 := by
  unfold V V0
  simp only [hostOps0, List.flatten_cons, List.flatten_nil, List.append_nil]
  after_results
  rfl

/-- The row of the arguments that lane `l` of point `k`'s block holds. -/
def rowOf (k : Fin 8) (l : Fin 2048) : Fin 16384 := ⟨2048 * k.val + l.val, by omega⟩

theorem idx_0 (k : Fin 8) (a : Fin 2) : win0_0.index (pt k) a = if a = 0 then 0 else k.val := by
  have hk := coord_eq (pt k)
  have : (pt k).val = k.val := rfl
  have hb : (BitVec.ofNat 32 (grid0.coords (pt k) 0).val).toNat = k.val := by
    rw [BitVec.toNat_ofNat, hk, this, Nat.mod_eq_of_lt (by omega)]
  fin_cases a
  · rfl
  · exact hb

/-- An element of a block of scores. -/
theorem block0 (c : Dev nD) (k : Fin 8) (j : Fin 1000) (l : Fin 2048) :
    iblk m c 0 (pt k) (ValueIdx.ix2 j l) = m ((c : Thread nD τ).loc main_arg0) (ValueIdx.ix2 (rowOf k l) j) := by
  unfold iblk
  show V m c main_v0 ((win0_0.rect (pt k)).emb (ValueIdx.ix2 j l)) = _
  rw [V_main_v0]
  refine transpose_apply _ _ _ _ _ fun b => ?_
  have h := win0_0.rect_emb_val (pt k) (ValueIdx.ix2 j l) b
  rw [h, idx_0]
  fin_cases b
  · show j.val = 0 * _ + j.val
    omega
  · show 2048 * k.val + l.val = k.val * 2048 + l.val
    omega

/-- An element of a block of targets. -/
theorem block1 (c : Dev nD) (k : Fin 8) (l : Fin 2048) :
    iblk m c 1 (pt k) (ValueIdx.ix2 0 l)
      = FloatOps.sitofp .f32 (m ((c : Thread nD τ).loc main_arg1) (ValueIdx.ix1 (rowOf k l))) := by
  unfold iblk
  show V m c main_v2 ((win0_1.rect (pt k)).emb (ValueIdx.ix2 0 l)) = _
  rw [V_main_v2]
  rw [shapeCast_apply (k := ValueIdx.ix1 (rowOf k l))]
  · rfl
  · have h := win0_1.rect_emb_val (pt k) (ValueIdx.ix2 0 l) 1
    have h0 := win0_1.rect_emb_val (pt k) (ValueIdx.ix2 0 l) 0
    rw [Shape.rowMajor_val_one, Shape.rowMajor_val_two, h, h0]
    have e1 : win0_1.index (pt k) 1 = k.val := idx_0 k 1
    have e0 : win0_1.index (pt k) 0 = 0 := idx_0 k 0
    rw [e1, e0]
    show 2048 * k.val + l.val = (0 * _ + 0) * _ + (k.val * 2048 + l.val)
    omega

end Cert.KernelIdeal.Hand

end
-- ==== Proof.RefFuns.lean ====
/- The reference's result, and the precondition, as compositions of a few named functions of the scores and the
   targets. Both statements hold by unfolding. -/
module

public import proofs.«01_k».proof.Pre_clear_cut
public import proofs.«01_k».proof.Proof.Gen.ReferenceIdeal.Run

@[expose] public section

noncomputable section

namespace Cert.Ref

open Cert.ReferenceIdeal Cert.ReferenceIdeal.Gen Idealize.ShloMosaic Idealize.ShloMosaic.TcCoe Idealize.SL.Sem

variable {F : FTy → Type} [FloatOps F]

/-- The scores: one row of 1000 for each of the 16384 examples. -/
abbrev Scores (F : FTy → Type) := FVec F S16384x1000 .f32
/-- One float per example. -/
abbrev Col (F : FTy → Type) := FVec F S16384 .f32
/-- One 32-bit word per example. -/
abbrev Idx := IVec S16384 32

/-- A number repeated for every example. -/
def rep (b : FVec F S_ .f32) : Col F := broadcastInDim S16384 ![] bcast_S_S16384 b

/-- A literal repeated for every example. -/
def lit (b : BitVec 32) : Col F := rep (constant (F := F) S_ .f32 b)

/-- A word repeated for every example. -/
def word (n : BitVec 32) : Idx := broadcastInDim S16384 ![] bcast_S_S16384 (constantI S_ 32 n)

/-- The index `t`, with `n` added where it is negative. -/
def wrap (n : BitVec 32) (t : Idx) : Idx :=
  select (cmpi .slt t (word 0#32)) (addi t (word n)) t

/-- The pair (row number, index) for every example. -/
def pairs (t : Idx) : IVec S16384x2 32 :=
  concatenate S16384x2 1
    [⟨S16384x1, broadcastInDim S16384x1 ![0] bcast_S16384_S16384x1_0 (wrap 16384#32 (iotaInDim S16384 32 0))⟩,
     ⟨S16384x1, broadcastInDim S16384x1 ![0] bcast_S16384_S16384x1_0 (wrap 1000#32 t)⟩]
    concatenates_S16384x1_S16384x1_S16384x2_d1

/-- The score of the class `t` names, for every example. -/
def scoreAt (x : Scores F) (t : Idx) : Col F :=
  Host.gather gather_S16384x1000_S16384x2_S16384_n_01_n_n_01_1_11 x (pairs t)

/-- The classes of the two largest scores of every example. -/
def topTwo (x : Scores F) : IVec S16384x2 32 :=
  (Host.topK S16384x2 1 (FloatOps.cmpfTotal .gt) x sliceFits_S16384x1000_S16384x2).2

/-- The class of the largest score. -/
def first (x : Scores F) : Idx :=
  shapeCast S16384 (extractStridedSlice S16384x1 ![0, 0] (topTwo x) slices_S16384x2_S16384x1_0_0) shapeCasts_S16384x1_S16384

/-- The class of the second largest score. -/
def second (x : Scores F) : Idx :=
  shapeCast S16384 (extractStridedSlice S16384x1 ![0, 1] (topTwo x) slices_S16384x2_S16384x1_0_1) shapeCasts_S16384x1_S16384

/-- The margin of every example: the target's score less the best, or where that is not positive the second best. -/
def margin (x : Scores F) (t : Idx) : Col F :=
  select (cmpf .ogt (subf (scoreAt x t) (scoreAt x (first x))) (lit 0x00000000#32))
    (subf (scoreAt x t) (scoreAt x (first x))) (subf (scoreAt x t) (scoreAt x (second x)))

/-- The threshold: a constant and 0.9 for every negative margin. -/
def thresh (b : Col F) : FVec F S_ .f32 :=
  addf (constant S_ .f32 0x464F5C29#32) (mulf (constant S_ .f32 0x3F666666#32)
    (Host.reduceAdd (uitofp .f32 (cmpf .olt b (lit 0x00000000#32))) (constant S_ .f32 0x00000000#32)
      reducesTo_S16384_S_d0 h_S_))

/-- The logarithm of the sum of the exponentials of a row. -/
def lse (x : Scores F) : Col F :=
  Host.log (Host.reduceAdd (Host.exp x) (constant S_ .f32 0x00000000#32) reducesTo_S16384x1000_S16384_d1 h_S_)

/-- The loss of every example. -/
def loss (x : Scores F) (t : Idx) (b : Col F) : Col F :=
  select (cmpf .oge b (lit 0x00000000#32))
    (maximumf (subf (lit 0x3F800000#32) b) (lit 0x00000000#32))
    (maximumf (addf (subf (lit 0x3F800000#32) (scoreAt x t)) (lse x)) (lit 0x00000000#32))

/-- The losses in increasing order. -/
def sorted (l : Col F) : Col F := Host.sort S16384 0 comparator_f32_d0 l

/-- The running sums. -/
def cums (s : Col F) : Col F :=
  Host.reduceWindowAdd ![16384] ![1] ![16383] ![0] s
    (broadcastInDim S_ ![] bcast_S_S_ (constant S_ .f32 0x00000000#32))
    reduceWindows_S16384_S16384_w16384s1p16383_0 h_S_

/-- Which sorted losses are selected: those whose running sum is at most the threshold less their position. -/
def mask (s : Col F) (θ : FVec F S_ .f32) : IVec S16384 1 :=
  cmpf .ole (cums s) (subf (rep θ) (sitofp .f32 (iotaInDim S16384 32 0)))

/-- The sum of the selected entries of `v`. -/
def selected (k : IVec S16384 1) (v : Col F) : FVec F S_ .f32 :=
  Host.reduceAdd (select k v (rep (id (constant S_ .f32 0x00000000#32)))) (constant S_ .f32 0x00000000#32)
    reducesTo_S16384_S_d0 h_S_

/-- The result from the sorted losses and the threshold. -/
def out (s : Col F) (θ : FVec F S_ .f32) : FVec F S_ .f32 :=
  mulf (Host.divf (maximumf (selected (mask s θ) s)
      (subf θ (selected (mask s θ) (Host.divf (addf s (lit 0x2EDBE6FF#32)) s))))
    (constant S_ .f32 0x46800000#32)) (constant S_ .f32 0x3DCCCCCD#32)

/-- The sorted losses of scores and targets. -/
def ordered (x : Scores F) (t : Idx) : Col F := sorted (loss x t (margin x t))

/-- The reference's result is `out` of the sorted losses and the threshold. -/
theorem res_eq (m : (ℓ : Loc nD τ sig) → Buf (Elt F) ℓ) (c : Dev nD) :
    Value.res_main_v87 m c
      = out (ordered (m (c.tc.loc main_arg0)) (m (c.tc.loc main_arg1)))
          (thresh (margin (m (c.tc.loc main_arg0)) (m (c.tc.loc main_arg1)))) := by
  unfold Value.res_main_v87
  rfl

end Cert.Ref

end
-- ==== Proof.PreFuns.lean ====
/- The precondition as a composition of named functions of the scores and the targets. -/
module

public import proofs.«01_k».proof.Proof.RefFuns

@[expose] public section

noncomputable section

namespace Cert.Ref

open Cert.ReferenceIdeal Cert.ReferenceIdeal.Gen Idealize.ShloMosaic

variable {F : FTy → Type} [FloatOps F]

/-- The facts the precondition states are the reference's. -/
instance preFacts : Cert.Pre_clear_cut.Facts where
  sliceFits_S16384x1000_S16384x2 := by decide
  bcast_S_S16384 := by decide
  bcast_S16384_S16384x1_0 := by decide
  concatenates_S16384x1_S16384x1_S16384x2_d1 := by decide
  slices_S16384x2_S16384x1_0_0 := by decide
  shapeCasts_S16384x1_S16384 := by decide
  slices_S16384x2_S16384x1_0_1 := by decide
  reducesTo_S16384_S_d0 := by decide
  h_S_ := by decide
  reducesTo_S16384x1000_S16384_d1 := by decide
  bcast_S_S_ := by decide
  reduceWindows_S16384_S16384_w16384s1p16383_0 := by decide
  bcast_S_S16384x1000 := by decide
  reducesTo_S16384x1000_S_d0_1 := by decide
  gather_S16384x1000_S16384x2_S16384_n_01_n_n_01_1_11_wf := by decide

/-- Are all scores finite. -/
def finite (x : Scores F) : IVec S_ 1 :=
  Host.reduce IntOp.andi
    (cmpf .olt (Host.absf x)
      (broadcastInDim S16384x1000 ![] Cert.Pre_clear_cut.Facts.bcast_S_S16384x1000 (constant (F := F) S_ .f32 0x7F800000#32)))
    (constantI S_ 1 1#1) Cert.Pre_clear_cut.Facts.reducesTo_S16384x1000_S_d0_1 h_S_

/-- Are all bits set. -/
def allSet (b : IVec S16384 1) : IVec S_ 1 :=
  Host.reduce IntOp.andi b (constantI S_ 1 1#1) reducesTo_S16384_S_d0 h_S_

/-- Are all targets between 0 and 999. -/
def inRange (t : Idx) : IVec S_ 1 :=
  allSet (andi (cmpi .sge t (word 0#32)) (cmpi .slt t (word 1000#32)))

/-- The least loss that is not selected. -/
def firstOut (s : Col F) (k : IVec S16384 1) : FVec F S_ .f32 :=
  Host.reduce FloatOps.minimumf (select k (rep (id (constant S_ .f32 0x7F800000#32))) s)
    (constant S_ .f32 0x7F800000#32) reducesTo_S16384_S_d0 h_S_

/-- The greatest loss that is selected. -/
def lastIn (s : Col F) (k : IVec S16384 1) : FVec F S_ .f32 :=
  Host.reduce FloatOps.maximumf (select k s (rep (id (constant S_ .f32 0xFF800000#32))))
    (constant S_ .f32 0xFF800000#32) reducesTo_S16384_S_d0 h_S_

/-- Which selected losses are near the least one that is not. -/
def near (s : Col F) (k : IVec S16384 1) : IVec S16384 1 :=
  andi k (cmpf .olt (subf (rep (firstOut s k)) s)
    (rep (addf (mulf (constant S_ .f32 0x34000000#32) (firstOut s k)) (constant S_ .f32 0x00800000#32))))

/-- Is every near loss the greatest selected one. -/
def clear (s : Col F) (k : IVec S16384 1) : IVec S_ 1 :=
  allSet (select (near s k) (cmpf .oeq s (rep (lastIn s k)))
    (broadcastInDim S16384 ![] bcast_S_S16384 (constantI S_ 1 1#1)))

/-- The precondition: finite scores, targets in range, and a clear cut. -/
theorem pre_eq (x : Scores F) (t : Idx) :
    Cert.Pre_clear_cut.fn x t
      = andi (andi (finite x) (inRange t))
          (clear (ordered x t) (mask (ordered x t) (thresh (margin x t)))) := by
  rfl

end Cert.Ref

end
-- ==== Proof.RefTail.lean ====
/- The reference's sums, running sums, selection and threshold over the extended reals, entry by entry. -/
module

public import proofs.«01_k».proof.Proof.PreFuns
public import proofs.«01_k».proof.Proof.FinalRead
public import Idealize.ShloMosaic.Lib.ReduceAll
public import Idealize.ShloMosaic.Lib.IdealHost
public import Idealize.ShloMosaic.Lib.Routing.Ops

@[expose] public section

set_option maxRecDepth 16384

noncomputable section

namespace Cert.Ref

open Cert.ReferenceIdeal Cert.ReferenceIdeal.Gen Idealize.ShloMosaic ValueIdx Routing
open scoped BigOperators

/-- The examples' indices are the numbers below 16384. -/
def col : Fin 16384 ≃ S16384.Idx where
  toFun i := ix1 i
  invFun j := j 0
  left_inv _ := rfl
  right_inv j := by
    funext a
    match a with
    | ⟨0, _⟩ => rfl

theorem idx_zero (j j' : S_.Idx) : j = j' := funext fun a => a.elim0

instance : Subsingleton S_.Idx := ⟨idx_zero⟩

/-- A sum from zero over every example. -/
theorem sum_gen (v : Col Ideal) (z : FVec Ideal S_ .f32) (hz : ∀ j, z j = (0 : EReal)) (j : S_.Idx) :
    Host.reduceAdd v z reducesTo_S16384_S_d0 h_S_ j = ∑ i : Fin 16384, (v (ix1 i) : EReal) := by
  have h1 : Host.reduceAdd v z reducesTo_S16384_S_d0 h_S_ j = _ :=
    Ideal.hostReduceAdd_total reducesTo_S16384_S_d0 (fun a => a.elim0) v (z (Shape.Idx.first h_S_)) j
  rw [h1, hz, zero_add]
  exact (Equiv.sum_comp col (fun i => (v i : EReal))).symm

theorem zero_const (j : S_.Idx) : (constant (F := Ideal) S_ .f32 0x00000000#32) j = (0 : EReal) := Ideal.ofBits_zero_f32

theorem selected_eq (k : IVec S16384 1) (v : Col Ideal) (j : S_.Idx) :
    selected k v j = ∑ i : Fin 16384, if k (ix1 i) = 1#1 then (v (ix1 i) : EReal) else 0 := by
  unfold selected
  rw [sum_gen _ _ zero_const]
  refine Finset.sum_congr rfl fun i _ => ?_
  rw [Cert.KernelIdeal.Hand.select_apply]
  exact congrArg (fun z : EReal => if k (ix1 i) = 1#1 then (v (ix1 i) : EReal) else z) (zero_const (fun a => a.elim0))

theorem foldl_sum {ι : Type} (l : List ι) (g : ι → EReal) (z : EReal) :
    l.foldl (fun r a => r + g a) z = z + (l.map g).sum := by
  induction l generalizing z with
  | nil => simp
  | cons a l ih => rw [List.foldl_cons, ih, List.map_cons, List.sum_cons, add_assoc]

/-- A window of the whole length, padded low by one less, sums a prefix. -/
theorem sum_window {N Nm1 : ℕ} (hN : Nm1 + 1 = N) (x : Fin N → EReal) (j : Fin N) :
    (∑ w : Fin N, if h : Nm1 ≤ j.val + w.val then x ⟨j.val + w.val - Nm1, by omega⟩ else 0)
      = ∑ i : Fin N, if i ≤ j then x i else 0 := by
  have h1 : (∑ w : Fin N, if h : Nm1 ≤ j.val + w.val then x ⟨j.val + w.val - Nm1, by omega⟩ else 0)
      = ∑ w : Fin N, if Nm1 ≤ j.val + w.val then x ⟨(j.val + w.val - Nm1) % N, Nat.mod_lt _ (by omega)⟩ else 0 := by
    refine Finset.sum_congr rfl fun w _ => ?_
    by_cases h : Nm1 ≤ j.val + w.val
    · rw [dif_pos h, if_pos h]
      congr 1
      exact Fin.ext (Nat.mod_eq_of_lt (by omega)).symm
    · rw [dif_neg h, if_neg h]
  rw [h1, ← Finset.sum_filter, ← Finset.sum_filter]
  refine Finset.sum_nbij' (fun w => ⟨(j.val + w.val - Nm1) % N, Nat.mod_lt _ (by omega)⟩)
    (fun i => ⟨(i.val + Nm1 - j.val) % N, Nat.mod_lt _ (by omega)⟩) ?_ ?_ ?_ ?_ ?_
  · intro w hw
    simp only [Finset.mem_filter, Finset.mem_univ, true_and] at hw ⊢
    rw [Fin.le_def]
    show (j.val + w.val - Nm1) % N ≤ j.val
    rw [Nat.mod_eq_of_lt (by omega)]
    omega
  · intro i hi
    simp only [Finset.mem_filter, Finset.mem_univ, true_and, Fin.le_def] at hi ⊢
    rw [Nat.mod_eq_of_lt (by omega)]
    omega
  · intro w hw
    simp only [Finset.mem_filter, Finset.mem_univ, true_and] at hw ⊢
    refine Fin.ext ?_
    show ((j.val + w.val - Nm1) % N + Nm1 - j.val) % N = w.val
    rw [Nat.mod_eq_of_lt (show j.val + w.val - Nm1 < N by omega), Nat.mod_eq_of_lt (by omega)]
    omega
  · intro i hi
    simp only [Finset.mem_filter, Finset.mem_univ, true_and, Fin.le_def] at hi ⊢
    refine Fin.ext ?_
    show (j.val + (i.val + Nm1 - j.val) % N - Nm1) % N = i.val
    rw [Nat.mod_eq_of_lt (show i.val + Nm1 - j.val < N by omega), Nat.mod_eq_of_lt (by omega)]
    omega
  · intro w hw
    rfl

/-- The running sum of a vector, entry by entry. -/
theorem cumsum_gen {N Nm1 : ℕ} (hN : Nm1 + 1 = N) (x : (shape1 N).Idx → EReal) {u : Shape} (init : u.Idx → EReal)
    (h : (shape1 N).ReduceWindows (![N] : Fin 1 → Nat) ![1] ![Nm1] ![0] (shape1 N))
    (hu : 0 < u.numel) (hinit : init (Shape.Idx.first hu) = 0) (j : Fin N) :
    Host.reduceWindow (fun a b : EReal => a + b) ![N] ![1] ![Nm1] ![0] x init h hu (ix1 j)
      = ∑ i : Fin N, if i ≤ j then x (ix1 i) else 0 := by
  rw [← sum_window hN (fun i => x (ix1 i)) j]
  unfold Host.reduceWindow
  rw [foldl_sum, hinit, zero_add, ← Fin.sum_univ_def]
  refine Fintype.sum_equiv (finCongr (numel1 N)) _ _ fun n => ?_
  have hw : ((shape1 N).rowMajor.symm n 0).val = n.val := by rw [symm1]; rfl
  have hn : n.val < N := (n.cast (numel1 _)).isLt
  have hj := j.isLt
  have hf : (finCongr (numel1 N) n).val = n.val := rfl
  dsimp only
  split
  · next hin =>
    have h0 := hin 0
    change Nm1 ≤ j.val * 1 + ((shape1 N).rowMajor.symm n 0).val
      ∧ j.val * 1 + ((shape1 N).rowMajor.symm n 0).val - Nm1 < N at h0
    rw [hw] at h0
    rw [dif_pos (show Nm1 ≤ j.val + (finCongr (numel1 N) n).val by rw [hf]; omega)]
    refine congrArg x (funext fun a => Fin.ext ?_)
    match a with
    | ⟨0, _⟩ =>
      show j.val * 1 + ((shape1 N).rowMajor.symm n 0).val - Nm1 = j.val + n.val - Nm1
      rw [hw, Nat.mul_one]
  · next hin =>
    rw [dif_neg fun hle : Nm1 ≤ j.val + (finCongr (numel1 N) n).val => hin fun a => by
      rw [hf] at hle
      match a with
      | ⟨0, _⟩ =>
        show Nm1 ≤ j.val * 1 + ((shape1 N).rowMajor.symm n 0).val
          ∧ j.val * 1 + ((shape1 N).rowMajor.symm n 0).val - Nm1 < N
        rw [hw]
        omega]

theorem cums_gen {N Nm1 : ℕ} (hN : Nm1 + 1 = N) (x : FVec Ideal (shape1 N) .f32) {u : Shape} (z : FVec Ideal u .f32)
    (h : (shape1 N).ReduceWindows (![N] : Fin 1 → Nat) ![1] ![Nm1] ![0] (shape1 N))
    (hu : 0 < u.numel) (hz : z (Shape.Idx.first hu) = (0 : EReal)) (j : Fin N) :
    Host.reduceWindowAdd ![N] ![1] ![Nm1] ![0] x z h hu (ix1 j) = ∑ i : Fin N, if i ≤ j then (x (ix1 i) : EReal) else 0 :=
  cumsum_gen hN x (fun _ : (⟨0, ![]⟩ : Shape).Idx => z (Shape.Idx.first hu)) h (by decide) hz j

/-- The running sums are the sums of the first entries. -/
theorem cums_eq (s : Col Ideal) (j : Fin 16384) :
    cums s (ix1 j) = ∑ i : Fin 16384, if i ≤ j then (s (ix1 i) : EReal) else 0 :=
  cums_gen (N := 16384) (Nm1 := 16383) (by norm_num) s (broadcastInDim S_ ![] bcast_S_S_ (constant S_ .f32 0x00000000#32))
    reduceWindows_S16384_S16384_w16384s1p16383_0 h_S_ (zero_const (fun a => a.elim0)) j

end Cert.Ref

end
-- ==== Proof.RefCut.lean ====
/- The reference's selection over the extended reals: for sorted, nonnegative real losses it selects a prefix, and the
   precondition says what it must of the losses at the prefix's end. -/
module

public import proofs.«01_k».proof.Proof.RefTail
public import proofs.«01_k».proof.Proof.Select

@[expose] public section

set_option maxRecDepth 16384

noncomputable section

namespace Cert.Ref

open Cert.ReferenceIdeal Cert.ReferenceIdeal.Gen Cert.Selection Idealize.ShloMosaic ValueIdx Routing
open Cert.KernelIdeal.Hand (ofBits_at' ratio)
open scoped BigOperators

section
variable {F : FTy → Type} [FloatOps F]

theorem sel_at {α : Type} (c : BitVec 1) (x z : α) : Scalar.select c x z = if c = 1#1 then x else z := rfl

theorem rep_apply (b : FVec F S_ .f32) (i : S16384.Idx) : rep b i = b (fun a => a.elim0) := congrArg b (idx_zero _ _)

theorem mask_gen (s : Col F) (θ : FVec F S_ .f32) (i : Fin 16384) : mask s θ (ix1 i)
    = FloatOps.cmpf .ole (cums s (ix1 i)) (FloatOps.subf (θ (fun a => a.elim0)) (FloatOps.sitofp .f32 (BitVec.ofNat 32 i.val))) := by
  unfold mask rep cmpf subf broadcastInDim sitofp iotaInDim
  rw [show ∀ j : S_.Idx, θ j = θ (fun a => a.elim0) from fun j => congrArg θ (idx_zero _ _)]

theorem thresh_gen (b : Col F) (j : S_.Idx) : thresh b j
    = FloatOps.addf (FloatOps.ofBits .f32 0x464F5C29#32) (FloatOps.mulf (FloatOps.ofBits .f32 0x3F666666#32)
      (Host.reduceAdd (uitofp .f32 (cmpf .olt b (lit 0x00000000#32))) (constant S_ .f32 0x00000000#32)
      reducesTo_S16384_S_d0 h_S_ j)) := rfl

theorem neg_gen (b : Col F) (i : Fin 16384) : (uitofp .f32 (cmpf .olt b (lit 0x00000000#32)) : Col F) (ix1 i)
    = FloatOps.uitofp .f32 (FloatOps.cmpf .olt (b (ix1 i)) (FloatOps.ofBits .f32 0x00000000#32)) := rfl

theorem out_gen (s : Col F) (θ : FVec F S_ .f32) (j : S_.Idx) : out s θ j
    = FloatOps.mulf (FloatOps.hostDivf (FloatOps.maximumf (selected (mask s θ) s j)
      (FloatOps.subf (θ j) (selected (mask s θ) (Host.divf (addf s (lit 0x2EDBE6FF#32)) s) j)))
    (FloatOps.ofBits .f32 0x46800000#32)) (FloatOps.ofBits .f32 0x3DCCCCCD#32) := rfl

theorem ratio_gen (s : Col F) (i : Fin 16384) : (Host.divf (addf s (lit 0x2EDBE6FF#32)) s : Col F) (ix1 i)
    = FloatOps.hostDivf (FloatOps.addf (s (ix1 i)) (FloatOps.ofBits .f32 0x2EDBE6FF#32)) (s (ix1 i)) := rfl

theorem near_gen (s : Col F) (k : IVec S16384 1) (i : Fin 16384) : near s k (ix1 i)
    = IntOp.andi (k (ix1 i)) (FloatOps.cmpf .olt (FloatOps.subf (firstOut s k (fun a => a.elim0)) (s (ix1 i)))
        (FloatOps.addf (FloatOps.mulf (FloatOps.ofBits .f32 0x34000000#32) (firstOut s k (fun a => a.elim0))) (FloatOps.ofBits .f32 0x00800000#32))) := by
  show IntOp.andi (k (ix1 i)) (FloatOps.cmpf .olt (FloatOps.subf (rep (firstOut s k) (ix1 i)) (s (ix1 i)))
    (rep (addf (mulf (constant S_ .f32 0x34000000#32) (firstOut s k)) (constant S_ .f32 0x00800000#32)) (ix1 i))) = _
  rw [rep_apply, rep_apply]
  rfl

theorem firstOut_gen [Std.Commutative (FloatOps.minimumf (F := F) (φ := .f32))] [Std.Associative (FloatOps.minimumf (F := F) (φ := .f32))]
    (s : Col F) (k : IVec S16384 1) (j : S_.Idx) : firstOut s k j
    = (Finset.univ : Finset S16384.Idx).fold FloatOps.minimumf (FloatOps.ofBits .f32 0x7F800000#32)
      (fun i => Scalar.select (k i) (FloatOps.ofBits .f32 0x7F800000#32) (s i)) := by
  unfold firstOut
  rw [Host.reduce_eq_fold, Finset.filter_eq_self.mpr fun i _ => idx_zero _ _]
  rfl

theorem clear_gen (s : Col F) (k : IVec S16384 1) (j : S_.Idx) (h : clear s k j = 1#1) (i : Fin 16384)
    (hn : near s k (ix1 i) = 1#1) : FloatOps.cmpf .oeq (s (ix1 i)) (lastIn s k (fun a => a.elim0)) = 1#1 := by
  have h1 := Host.reduce_andi_all _ _ _ _ j h (ix1 i)
  rw [Cert.KernelIdeal.Hand.select_apply, if_pos hn] at h1
  rw [← rep_apply (lastIn s k) (ix1 i)]
  exact h1
end

theorem near_at (a b u v : Ideal .f32) : FloatOps.cmpf .olt (FloatOps.subf a b) (FloatOps.addf (FloatOps.mulf u a) v)
    = Ideal.cmp .olt ((a - b : EReal)) ((u * a + v : EReal)) := rfl

theorem toInt_small (i : Fin 16384) : (BitVec.ofNat 32 i.val).toInt = (i.val : ℤ) := by
  have h := i.isLt
  have hn : (BitVec.ofNat 32 i.val).toNat = i.val := by rw [BitVec.toNat_ofNat]; omega
  rw [BitVec.toInt_eq_toNat_of_lt (by omega), hn]

/-- The reference's threshold. -/
theorem thresh_eq (b : Col Ideal) (j : S_.Idx) : thresh b j
    = Ideal.ofBits .f32 0x464F5C29#32 + Ideal.ofBits .f32 0x3F666666#32 * ∑ i : Fin 16384, if (b (ix1 i) : EReal) < 0 then 1 else 0 := by
  rw [thresh_gen, sum_gen _ _ zero_const]
  simp only [neg_gen]
  refine congrArg (fun z : EReal => Ideal.ofBits .f32 0x464F5C29#32 + Ideal.ofBits .f32 0x3F666666#32 * z) (Finset.sum_congr rfl fun i _ => ?_)
  refine (Literals.bit_unsigned _).trans ?_
  rw [ofBits_at', Ideal.ofBits_zero_f32]
  exact if_congr Literals.cmp_olt rfl rfl

variable {s0 : Col Ideal} {s : Fin 16384 → ℝ} {θ : FVec Ideal S_ .f32} {t : ℝ}

/-- A loss is selected when the losses and the count up to it stay within the threshold and one. -/
theorem mask_iff (hs : ∀ i, s0 (ix1 i) = (s i : EReal)) (hθ : ∀ j, θ j = (t : EReal)) (i : Fin 16384) :
    mask s0 θ (ix1 i) = 1#1 ↔ pre s (i.val + 1) ≤ t + 1 := by
  rw [mask_gen, cums_eq, hθ]
  have h1 : (∑ j : Fin 16384, if j ≤ i then (s0 (ix1 j) : EReal) else 0) = ((∑ j : Fin 16384, if j.val < i.val + 1 then s j else 0 : ℝ) : EReal) := by
    rw [coe_sum]
    refine Finset.sum_congr rfl fun j _ => ?_
    rw [hs]
    by_cases h : j ≤ i
    · rw [if_pos h, if_pos (Nat.lt_succ_of_le h)]
    · rw [if_neg h, if_neg fun h' => h (Nat.le_of_lt_succ h')]; rfl
  rw [h1]
  refine Literals.cmp_ole.trans ?_
  have h2 : (FloatOps.subf (F := Ideal) (t : EReal) (FloatOps.sitofp .f32 (BitVec.ofNat 32 i.val)) : EReal) = ((t - i.val : ℝ) : EReal) := by
    show (t : EReal) - (((BitVec.ofNat 32 i.val).toInt : ℝ) : EReal) = _
    rw [toInt_small, ← EReal.coe_sub]
    push_cast
    rfl
  rw [h2, EReal.coe_le_coe_iff, Selection.pre_eq s (Nat.succ_le_of_lt i.isLt)]
  push_cast
  constructor <;> intro h <;> linarith

/-- The sum of the selected entries of a function of the losses. -/
theorem selected_prefix (hs : ∀ i, s0 (ix1 i) = (s i : EReal)) {k : ℕ} {b : IVec S16384 1} (hb : ∀ i : Fin 16384, b (ix1 i) = 1#1 ↔ i.val < k)
    (f : EReal → EReal) (v : Col Ideal) (hv : ∀ i, v (ix1 i) = f (s0 (ix1 i))) (j : S_.Idx) :
    selected b v j = ∑ i : Fin 16384, if i.val < k then f (s i) else 0 := by
  rw [selected_eq]
  refine Finset.sum_congr rfl fun i _ => ?_
  rw [hv, hs]
  exact if_congr (hb i) rfl rfl

/-- The reference's result, when it selects the first `k` losses. -/
theorem out_eq (hs : ∀ i, s0 (ix1 i) = (s i : EReal)) (hθ : ∀ j, θ j = (t : EReal)) {k : ℕ}
    (hk : ∀ i : Fin 16384, pre s (i.val + 1) ≤ t + 1 ↔ i.val < k) (j : S_.Idx) : out s0 θ j
    = Ideal.div (max (∑ i : Fin 16384, if i.val < k then (s i : EReal) else 0)
        ((t : EReal) - ∑ i : Fin 16384, if i.val < k then ratio (s i) else 0)) ((16384 : ℝ) : EReal) * Ideal.ofBits .f32 0x3DCCCCCD#32 := by
  have hb : ∀ i : Fin 16384, mask s0 θ (ix1 i) = 1#1 ↔ i.val < k := fun i => (mask_iff hs hθ i).trans (hk i)
  rw [out_gen, selected_prefix hs hb (fun z => z) s0 (fun _ => rfl) j,
    selected_prefix hs hb ratio _ (fun i => ratio_gen s0 i) j, hθ]
  exact congrArg (fun z : EReal => Ideal.div (max (∑ i : Fin 16384, if i.val < k then (s i : EReal) else 0)
        ((t : EReal) - ∑ i : Fin 16384, if i.val < k then ratio (s i) else 0)) z * Ideal.ofBits .f32 0x3DCCCCCD#32) Literals.count

/-- The least loss not selected is the first one after the prefix. -/
theorem firstOut_eq (hs : ∀ i, s0 (ix1 i) = (s i : EReal)) (hmono : Monotone s) {k : ℕ} {b : IVec S16384 1}
    (hb : ∀ i : Fin 16384, b (ix1 i) = 1#1 ↔ i.val < k) (hkn : k < 16384) (j : S_.Idx) :
    firstOut s0 b j = (s ⟨k, hkn⟩ : EReal) := by
  have h1 : firstOut s0 b j = (Finset.univ : Finset S16384.Idx).fold (min : EReal → EReal → EReal) ⊤
      (fun i => Scalar.select (b i) ⊤ (s0 i)) := by
    rw [firstOut_gen, ofBits_at', Literals.inf]
    rfl
  rw [h1]
  refine le_antisymm ?_ ?_
  · rw [Finset.fold_min_le]
    refine Or.inr ⟨ix1 ⟨k, hkn⟩, Finset.mem_univ _, le_of_eq ?_⟩
    rw [sel_at]
    rw [if_neg fun h => lt_irrefl k ((hb ⟨k, hkn⟩).1 h)]
    exact hs _
  · rw [Finset.le_fold_min]
    refine ⟨le_top, fun i _ => ?_⟩
    obtain ⟨i, rfl⟩ := col.surjective i
    rw [sel_at]
    split
    · exact le_top
    · next h =>
      have h' : ¬ i.val < k := fun hi => h ((hb i).2 hi)
      refine le_of_le_of_eq ?_ (hs i).symm
      exact EReal.coe_le_coe_iff.2 (hmono (Fin.le_def.2 (not_lt.1 h')))

/-- The precondition's last part: the selected losses that are near the first one left out are all equal. -/
theorem clear_real (hs : ∀ i, s0 (ix1 i) = (s i : EReal)) (hmono : Monotone s) {k : ℕ} {b : IVec S16384 1}
    (hb : ∀ i : Fin 16384, b (ix1 i) = 1#1 ↔ i.val < k) {j0 : S_.Idx} (hc : clear s0 b j0 = 1#1) (hkn : k < 16384)
    (i j : Fin 16384) (hi : i.val < k) (hj : j.val < k)
    (hni : s ⟨k, hkn⟩ - s i < 2 ^ (-23 : ℤ) * s ⟨k, hkn⟩ + 2 ^ (-126 : ℤ))
    (hnj : s ⟨k, hkn⟩ - s j < 2 ^ (-23 : ℤ) * s ⟨k, hkn⟩ + 2 ^ (-126 : ℤ)) : s i = s j := by
  have key : ∀ i : Fin 16384, i.val < k → s ⟨k, hkn⟩ - s i < 2 ^ (-23 : ℤ) * s ⟨k, hkn⟩ + 2 ^ (-126 : ℤ) →
      (s i : EReal) = lastIn s0 b (fun a => a.elim0) := by
    intro i hi hni
    have hnear : near s0 b (ix1 i) = 1#1 := by
      rw [near_gen, IntOp.andi_eq_one]
      refine ⟨(hb i).2 hi, ?_⟩
      rw [near_at, firstOut_eq hs hmono hb hkn, hs, ofBits_at', ofBits_at', Literals.ulp, Literals.tiny]
      refine Literals.cmp_olt.2 ?_
      rw [← EReal.coe_sub, ← EReal.coe_mul, ← EReal.coe_add]
      exact EReal.coe_lt_coe_iff.2 hni
    have h1 := clear_gen s0 b j0 hc i hnear
    rw [hs] at h1
    exact Literals.cmp_oeq.1 h1
  exact EReal.coe_eq_coe_iff.1 ((key i hi hni).trans (key j hj hnj).symm)

end Cert.Ref

end
-- ==== Proof.RefSort.lean ====
/- The sorted losses: some reordering of the losses, increasing. -/
module

public import proofs.«01_k».proof.Proof.RefTail
public import Idealize.ShloMosaic.Lib.SortFacts

@[expose] public section

set_option maxRecDepth 16384

noncomputable section

namespace Cert.Ref

open Cert.ReferenceIdeal Cert.ReferenceIdeal.Gen Idealize.ShloMosaic ValueIdx Routing
open Cert.KernelIdeal.Hand (ofBits_at')

/-- The sort's comparison of two losses. -/
theorem comparator_gen {F : FTy → Type} [FloatOps F] (l r : F .f32) : comparator_f32_d0 l r
    = FloatOps.cmpfTotal .lt
        (Scalar.select (FloatOps.cmpf .une l l) (FloatOps.ofBits .f32 0x7FC00000#32)
          (Scalar.select (FloatOps.cmpf .oeq l (FloatOps.ofBits .f32 0x00000000#32)) (FloatOps.ofBits .f32 0x00000000#32) l))
        (Scalar.select (FloatOps.cmpf .une r r) (FloatOps.ofBits .f32 0x7FC00000#32)
          (Scalar.select (FloatOps.cmpf .oeq r (FloatOps.ofBits .f32 0x00000000#32)) (FloatOps.ofBits .f32 0x00000000#32) r)) := rfl

theorem normal (l c : EReal) : Scalar.select (Ideal.cmp .une l l) c (Scalar.select (Ideal.cmp .oeq l 0) 0 l) = l := by
  unfold Scalar.select Ideal.cmp
  by_cases h : l = 0 <;> simp [h]

/-- The comparison is "less than". -/
theorem comparator_eq (l r : Ideal .f32) : comparator_f32_d0 l r = 1#1 ↔ (l : EReal) < r := by
  have h : comparator_f32_d0 l r = Ideal.cmp .olt l r := by
    rw [comparator_gen, ofBits_at', ofBits_at', Ideal.ofBits_zero_f32]
    refine congrArg₂ (fun a b : EReal => Ideal.cmp .olt a b) ?_ ?_
    · exact normal l _
    · exact normal r _
  rw [h]
  exact Literals.cmp_olt

theorem sort_gen {α : Type} {N : ℕ} (cmp : α → α → BitVec 1) (x : (shape1 N).Idx → α) (i : Fin N) :
    Host.sort (shape1 N) 0 cmp x (ix1 i) = x (ix1 (sortedFrom (fun k k' : Fin N => cmp (x (ix1 k)) (x (ix1 k')) == 1#1) i)) := by
  have ha : ∀ k : Fin N, Shape.Idx.along (s := shape1 N) (ix1 i) 0 k = ix1 k := by
    intro k
    funext a
    match a with
    | ⟨0, _⟩ => exact Function.update_self _ _ _
  unfold Host.sort
  rw [dif_pos (show 0 < (shape1 N).rank from Nat.one_pos)]
  show x (Shape.Idx.along (s := shape1 N) (ix1 i) 0 (sortedFrom (fun k k' : Fin N =>
    cmp (x (Shape.Idx.along (s := shape1 N) (ix1 i) 0 k)) (x (Shape.Idx.along (s := shape1 N) (ix1 i) 0 k')) == 1#1) i)) = _
  simp only [ha]
  exact congrArg x (ha _)

/-- A sort by "less than" of real keys is a reordering that makes them increasing. -/
theorem sorted_core {N : ℕ} (r : Fin N → ℝ) (B : Fin N → Fin N → Bool) (hB : ∀ k k', B k k' = true ↔ r k < r k') :
    ∃ σ : Fin N ≃ Fin N, (∀ i, σ i = sortedFrom B i) ∧ Monotone fun i => r (σ i) := by
  have hf : ∀ k k', B k k' = false ↔ r k' ≤ r k := by
    intro k k'
    rw [← Bool.not_eq_true, hB, not_lt]
  refine ⟨Equiv.ofBijective (sortedFrom B) ⟨sortedFrom_injective B, sortedFrom_surjective B⟩, fun i => rfl, fun i j hij => ?_⟩
  rcases hij.lt_or_eq with hlt | rfl
  · have := sortedFrom_noInversion B B (fun a b h => (hf _ _).2 ((hB _ _).1 h).le) (fun _ _ h => h)
      (fun a b c h1 h2 => (hf _ _).2 (((hf _ _).1 h2).trans ((hf _ _).1 h1))) i j hlt
    exact (hf _ _).1 this
  · exact le_rfl

/-- Sorting real losses puts them in increasing order. -/
theorem sorted_gen {N : ℕ} (l : FVec Ideal (shape1 N) .f32) (r : Fin N → ℝ) (hr : ∀ i, l (ix1 i) = (r i : EReal)) :
    ∃ σ : Fin N ≃ Fin N, (∀ i, Host.sort (shape1 N) 0 (comparator_f32_d0 (F := Ideal)) l (ix1 i) = (r (σ i) : EReal))
      ∧ Monotone fun i => r (σ i) := by
  obtain ⟨σ, h1, h2⟩ := sorted_core r
    (fun k k' : Fin N => comparator_f32_d0 (F := Ideal) (l (ix1 k)) (l (ix1 k')) == 1#1) (fun k k' => by
      rw [beq_iff_eq, comparator_eq, hr, hr, EReal.coe_lt_coe_iff])
  refine ⟨σ, fun i => ?_, h2⟩
  rw [sort_gen, ← h1]
  exact hr _

theorem sorted_real (l : Col Ideal) (r : Fin 16384 → ℝ) (hr : ∀ i, l (ix1 i) = (r i : EReal)) :
    ∃ σ : Fin 16384 ≃ Fin 16384, (∀ i, sorted l (ix1 i) = (r (σ i) : EReal)) ∧ Monotone fun i => r (σ i) :=
  sorted_gen (N := 16384) l r hr

end Cert.Ref

end
-- ==== Proof.Match.lean ====
/- The kernel's last step and the reference's give one value from the same losses and margins. -/
module

public import proofs.«01_k».proof.Proof.FinalRead
public import proofs.«01_k».proof.Proof.FinalValue
public import proofs.«01_k».proof.Proof.KernelRun
public import proofs.«01_k».proof.Proof.RefCut
public import proofs.«01_k».proof.Proof.RefSort

@[expose] public section

set_option maxRecDepth 16384

noncomputable section

namespace Cert.Match

open Cert.KernelIdeal.Hand Cert.Ref Cert.Selection Idealize.ShloMosaic ValueIdx Routing
open scoped BigOperators

/-- The kernel's eight rows of 2048 positions, as the examples they hold. -/
def pos : Pos ≃ Fin 16384 where
  toFun y := rowOf (y 0) (y 1)
  invFun i := ix2 (⟨i.val / 2048, by omega⟩ : Fin 8) (⟨i.val % 2048, by omega⟩ : Fin 2048)
  left_inv y := by
    have h1 : (y 1).val < 2048 := (y 1).isLt
    funext d
    match d with
    | ⟨0, _⟩ => exact Fin.ext (show (2048 * (y 0).val + (y 1).val) / 2048 = (y 0).val by omega)
    | ⟨1, _⟩ => exact Fin.ext (show (2048 * (y 0).val + (y 1).val) % 2048 = (y 1).val by omega)
  right_inv i := Fin.ext (show 2048 * (i.val / 2048) + i.val % 2048 = i.val by omega)

variable {a b : Vec Ideal Cert.KernelIdeal.S8x2048 .f32} {l g : Col Ideal} {r q : Fin 16384 → ℝ}

/-- Both compute one threshold. -/
theorem thr_eq (hb : ∀ y, b y = (q (pos y) : EReal)) (hg : ∀ i, g (ix1 i) = (q i : EReal)) (j : Cert.ReferenceIdeal.S_.Idx) :
    thresh g j = thr b := by
  rw [thresh_eq g j]
  unfold thr
  refine congrArg (fun z : EReal => Ideal.ofBits .f32 0x464F5C29#32 + Ideal.ofBits .f32 0x3F666666#32 * z) ?_
  rw [← Equiv.sum_comp pos]
  exact Finset.sum_congr rfl fun y _ => by rw [hb, hg]

/-- Both compute one result. -/
theorem result_eq (ha : ∀ y, a y = (r (pos y) : EReal)) (hb : ∀ y, b y = (q (pos y) : EReal))
    (hl : ∀ i, l (ix1 i) = (r i : EReal)) (hg : ∀ i, g (ix1 i) = (q i : EReal)) (h0 : ∀ i, 0 ≤ r i)
    {j0 : Cert.ReferenceIdeal.S_.Idx} (hc : clear (sorted l) (mask (sorted l) (thresh g)) j0 = 1#1)
    (j : Cert.KernelIdeal.S1x1.Idx) (j' : Cert.ReferenceIdeal.S_.Idx) :
    finalOut a b j = out (sorted l) (thresh g) j' := by
  obtain ⟨σ, hs, hmono⟩ := sorted_real l r hl
  obtain ⟨t, ht, -⟩ := thr_real b
  have hθ : ∀ j, thresh g j = (t : EReal) := fun j => (thr_eq hb hg j).trans ht
  have hs0 : ∀ i, 0 ≤ (fun i => r (σ i)) i := fun i => h0 (σ i)
  obtain ⟨k, hk, hkp⟩ := exists_prefix (fun i : Fin 16384 => pre (fun i => r (σ i)) (i.val + 1) ≤ t + 1)
    fun i j hij h => le_trans (pre_mono hs0 (Nat.succ_le_succ hij)) h
  have hmask : ∀ i : Fin 16384, mask (sorted l) (thresh g) (ix1 i) = 1#1 ↔ i.val < k :=
    fun i => (mask_iff (s := fun i => r (σ i)) hs hθ i).trans (hkp i)
  have hae : ∀ y, a y = ((fun i => r (σ i)) ((pos.trans σ.symm) y) : EReal) := fun y => by
    rw [ha y]
    show _ = ((r (σ (σ.symm (pos y))) : ℝ) : EReal)
    rw [Equiv.apply_symm_apply]
  have hpre := clear_real (s := fun i => r (σ i)) hs hmono hmask hc
  rw [finalOut_eq, out_eq (s := fun i => r (σ i)) hs hθ hkp j',
    selSum_eq (pos.trans σ.symm) hs0 hmono hae ht hk hkp hpre, selSum_eq (pos.trans σ.symm) hs0 hmono hae ht hk hkp hpre, ht]

end Cert.Match

end
-- ==== Proof.RefGather.lean ====
/- The reference's score of a class, read at the class. -/
module

public import proofs.«01_k».proof.Proof.RefTail
public import Idealize.ShloMosaic.Lib.Pipeline.Value

@[expose] public section

set_option maxRecDepth 16384

noncomputable section

namespace Cert.Ref

open Cert.ReferenceIdeal Cert.ReferenceIdeal.Gen Idealize.ShloMosaic ValueIdx Routing

/-- A gather at pairs (row, column) reads the matrix at the pair, when it is in range. -/
theorem gather_pair {α : Type} {N M n w : ℕ} (d : GatherDims (shape2 N M) (shape2 n 2) (shape1 n))
    (hcoll : d.collapsedSliceDims = [0, 1]) (hob : d.operandBatchingDims = [])
    (hsim : d.startIndexMap = [0, 1]) (hivd : d.indexVectorDim = 1)
    (x : (shape2 N M).Idx → α) (idx : IVec (shape2 n 2) w) (p : Fin n) (a : Fin N) (b : Fin M)
    (ha : (idx (ix2 p 0)).toInt = a.val) (hb : (idx (ix2 p 1)).toInt = b.val) :
    Host.gather d x idx (ix1 p) = x (ix2 a b) := by
  have hsi : ∀ c : Fin d.startIndexMap.length, ∀ e : Fin 2, c.val = e.val → d.siIdx (ix1 p) c = ix2 p e := by
    intro c e hce
    funext q
    match q with
    | ⟨0, _⟩ =>
      unfold GatherDims.siIdx
      rw [dif_neg (by rw [hivd]; simp)]
      unfold GatherDims.siCoord
      apply Fin.ext
      simp only [Fin.val_cast]
      have e : ∀ X : Fin 1, ((ix1 p : (shape1 n).Idx) X).val = p.val := fun X => by
        have hX : X = 0 := Subsingleton.elim _ _
        subst hX; rfl
      exact e _
    | ⟨1, _⟩ =>
      unfold GatherDims.siIdx
      rw [dif_pos (by rw [hivd])]
      exact Fin.ext hce
  have hstart : ∀ q : Fin 2, d.start (ix1 p) idx q = min (idx (ix2 p q)).toInt.toNat ((shape2 N M).size q - 1) := by
    intro q
    have hm : q ∈ d.startIndexMap := by rw [hsim]; fin_cases q <;> simp
    have hsl : d.sliceSizes q = 1 := d.slice_collapsed q (by rw [hcoll]; fin_cases q <;> simp)
    unfold GatherDims.start
    rw [dif_pos hm, hsl, hsi _ q (by
      show List.idxOf q d.startIndexMap = q.val
      rw [hsim]; fin_cases q <;> rfl)]
  have hco : ∀ q : Fin 2, (d.operandIdx (ix1 p) idx q).val = min (idx (ix2 p q)).toInt.toNat ((shape2 N M).size q - 1) := by
    intro q
    have hb' : q ∉ d.operandBatchingDims := by rw [hob]; exact List.not_mem_nil
    have hk : q ∉ d.sKept := by rw [GatherDims.mem_sKept, hcoll]; fin_cases q <;> simp
    show d.start (ix1 p) idx q + d.batchCoord (ix1 p) q + d.offCoord (ix1 p) q = _
    rw [d.batchCoord_eq_zero _ _ hb', d.offCoord_eq_zero _ _ hk, hstart]
    rfl
  unfold Host.gather
  congr 1
  funext q
  apply Fin.ext
  rw [hco]
  have h1 := a.isLt
  have h2 := b.isLt
  match q with
  | ⟨0, _⟩ =>
    show min (idx (ix2 p 0)).toInt.toNat (N - 1) = a.val
    rw [ha]; omega
  | ⟨1, _⟩ =>
    show min (idx (ix2 p 1)).toInt.toNat (M - 1) = b.val
    rw [hb]; omega

/-- An index that is not negative is unchanged by wrapping. -/
theorem wrap_apply (n : BitVec 32) (t : Idx) (i : Fin 16384) (h : 0 ≤ (t (ix1 i)).toInt) : wrap n t (ix1 i) = t (ix1 i) := by
  have h0 : wrap n t (ix1 i) = Scalar.select (IntOp.cmpi .slt (t (ix1 i)) 0#32) (IntOp.addi (t (ix1 i)) n) (t (ix1 i)) := rfl
  rw [h0]
  have h1 : IntOp.cmpi .slt (t (ix1 i)) 0#32 ≠ 1#1 := by
    unfold IntOp.cmpi
    simp only [BitVec.slt]
    rw [show decide ((t (ix1 i)).toInt < (0#32 : BitVec 32).toInt) = false from decide_eq_false (by simpa using h)]
    decide
  unfold Scalar.select
  exact if_neg h1

theorem column_apply (v : Idx) (i : Fin 16384) :
    broadcastInDim S16384x1 ![0] bcast_S16384_S16384x1_0 v (ix2 i 0) = v (ix1 i) := by
  refine congrArg v (funext fun a => ?_)
  match a with
  | ⟨0, _⟩ => rfl

theorem pairs_left (t : Idx) (i : Fin 16384) : pairs t (ix2 i 0) = wrap 16384#32 (iotaInDim S16384 32 0) (ix1 i) := by
  unfold pairs
  rw [concatenate_pair_apply_left 1 _ _ concatenates_S16384x1_S16384x1_S16384x2_d1 (ix2 i 0) rfl (ix2 i 0) (fun b => by
    match b with
    | ⟨0, _⟩ => rfl
    | ⟨1, _⟩ => rfl)]
  exact column_apply _ i

theorem pairs_right (t : Idx) (i : Fin 16384) : pairs t (ix2 i 1) = wrap 1000#32 t (ix1 i) := by
  unfold pairs
  rw [concatenate_pair_apply_right 1 _ _ concatenates_S16384x1_S16384x1_S16384x2_d1 (ix2 i 1) rfl rfl (ix2 i 0) (fun b hb => by
    match b with
    | ⟨0, _⟩ => rfl
    | ⟨1, _⟩ => exact absurd rfl hb) rfl]
  exact column_apply _ i

theorem iota_toInt (i : Fin 16384) : ((iotaInDim S16384 32 0 : Idx) (ix1 i)).toInt = (i.val : ℤ) := by
  have h := i.isLt
  have h0 : (iotaInDim S16384 32 0 : Idx) (ix1 i) = BitVec.ofNat 32 i.val := rfl
  have hn : (BitVec.ofNat 32 i.val).toNat = i.val := by rw [BitVec.toNat_ofNat]; omega
  rw [h0, BitVec.toInt_eq_toNat_of_lt (by omega), hn]

/-- The score of class `c`, where the index is `c`. -/
theorem scoreAt_apply {F : FTy → Type} [FloatOps F] (x : Scores F) (t : Idx) (i : Fin 16384) (c : Fin 1000)
    (h : (t (ix1 i)).toInt = (c.val : ℤ)) : scoreAt x t (ix1 i) = x (ix2 i c) := by
  unfold scoreAt
  refine gather_pair (N := 16384) (M := 1000) (n := 16384) gather_S16384x1000_S16384x2_S16384_n_01_n_n_01_1_11 rfl rfl rfl rfl x (pairs t) i i c ?_ ?_
  · rw [pairs_left, wrap_apply _ _ _ (by rw [iota_toInt]; omega), iota_toInt]
  · rw [pairs_right, wrap_apply _ _ _ (by rw [h]; omega), h]

end Cert.Ref

end
-- ==== Proof.RefTopTwo.lean ====
/- The classes of the two largest scores of a row. -/
module

public import proofs.«01_k».proof.Proof.RefTail
public import Idealize.ShloMosaic.Lib.SortFacts
public import Idealize.ShloMosaic.Lib.Pipeline.Value

@[expose] public section

set_option maxRecDepth 16384

noncomputable section

namespace Cert.Ref

open Cert.ReferenceIdeal Cert.ReferenceIdeal.Gen Idealize.ShloMosaic ValueIdx Routing

/-- Moving along a row. -/
theorem along_row {N M : ℕ} (i : Fin N) (e k : Fin M) : Shape.Idx.along (s := shape2 N M) (ix2 i e) 1 k = ix2 i k := by
  funext a
  match a with
  | ⟨0, _⟩ => exact Function.update_of_ne (by simp) _ _
  | ⟨1, _⟩ => exact Function.update_self _ _ _

/-- The positions of the largest entries of a row, largest first. -/
theorem topK_index {α : Type} {N M K : ℕ} (gt : α → α → BitVec 1) (x : (shape2 N M).Idx → α)
    (h : (shape2 N M).Slices (fun _ => 0) (shape2 N K)) (i : Fin N) (e : Fin K) (he : e.val < M) :
    (Host.topK (shape2 N K) 1 gt x h).2 (ix2 i e)
      = BitVec.ofNat 32 (sortedFrom (fun k k' : Fin M => gt (x (ix2 i k)) (x (ix2 i k')) == 1#1) ⟨e.val, he⟩).val := by
  have hj : ∀ y : IVec (shape2 N M) 32, extractStridedSlice (shape2 N K) (fun _ => 0) y h (ix2 i e) = y (ix2 i ⟨e.val, he⟩) := by
    intro y
    refine congrArg y (funext fun a => Fin.ext ?_)
    match a with
    | ⟨0, _⟩ => exact Nat.zero_add _
    | ⟨1, _⟩ => exact Nat.zero_add _
  unfold Host.topK
  dsimp only
  rw [hj]
  unfold Host.sort2
  rw [dif_pos (show 1 < (shape2 N M).rank from Nat.lt_succ_self 1)]
  show BitVec.ofNat 32 ((Shape.Idx.along (s := shape2 N M) (ix2 i ⟨e.val, he⟩) 1 (sortedFrom (fun k k' : Fin M =>
    gt (x (Shape.Idx.along (s := shape2 N M) (ix2 i ⟨e.val, he⟩) 1 k)) (x (Shape.Idx.along (s := shape2 N M) (ix2 i ⟨e.val, he⟩) 1 k')) == 1#1)
      ⟨e.val, he⟩)) 1).val = _
  simp only [along_row]
  rfl

/-- The first two positions of a sort by "greater than": the largest, and the largest of the rest. -/
theorem two_largest {M : ℕ} (hM : 1 < M) (X : Fin M → EReal) (B : Fin M → Fin M → Bool) (hB : ∀ k k', B k k' = true ↔ X k' < X k) :
    sortedFrom B ⟨0, by omega⟩ ≠ sortedFrom B ⟨1, hM⟩ ∧ (∀ j, X j ≤ X (sortedFrom B ⟨0, by omega⟩))
      ∧ ∀ j, j ≠ sortedFrom B ⟨0, by omega⟩ → X j ≤ X (sortedFrom B ⟨1, hM⟩) := by
  have hf : ∀ k k', B k k' = false ↔ X k ≤ X k' := by
    intro k k'
    rw [← Bool.not_eq_true, hB, not_lt]
  have hs : ∀ i j : Fin M, i ≤ j → X (sortedFrom B j) ≤ X (sortedFrom B i) := by
    intro i j hij
    rcases hij.lt_or_eq with hlt | rfl
    · exact (hf _ _).1 (sortedFrom_noInversion B B (fun a b h => (hf _ _).2 ((hB _ _).1 h).le) (fun _ _ h => h)
        (fun a b c h1 h2 => (hf _ _).2 (((hf _ _).1 h1).trans ((hf _ _).1 h2))) i j hlt)
    · exact le_rfl
  refine ⟨fun h => ?_, fun j => ?_, fun j hj => ?_⟩
  · have := sortedFrom_injective B h
    simp at this
  · obtain ⟨k, rfl⟩ := sortedFrom_surjective B j
    exact hs _ _ (Fin.le_def.2 (Nat.zero_le _))
  · obtain ⟨k, rfl⟩ := sortedFrom_surjective B j
    refine hs _ _ (Fin.le_def.2 ?_)
    have : k.val ≠ 0 := fun h0 => hj (congrArg _ (Fin.ext h0))
    show 1 ≤ k.val
    omega

/-- A column of a matrix, read as a vector. -/
theorem column_of {α : Type} {N K : ℕ} (e : Fin K) (v : (shape2 N K).Idx → α) (h : (shape2 N K).Slices ![0, e.val] (shape2 N 1))
    (hc : (shape2 N 1).ShapeCasts (shape1 N)) (i : Fin N) :
    shapeCast (shape1 N) (extractStridedSlice (shape2 N 1) ![0, e.val] v h) hc (ix1 i) = v (ix2 i e) := by
  rw [shapeCast_apply _ hc (ix1 i) (ix2 i 0) (by rw [Shape.rowMajor_val_one, Shape.rowMajor_val_two]; show i.val * 1 + 0 = i.val; omega)]
  refine extractStridedSlice_apply ![0, e.val] v h (ix2 i 0) (ix2 i e) fun a => ?_
  match a with
  | ⟨0, _⟩ => exact (Nat.zero_add _).symm
  | ⟨1, _⟩ => rfl

theorem first_apply {F : FTy → Type} [FloatOps F] (x : Scores F) (i : Fin 16384) : first x (ix1 i) = topTwo x (ix2 i 0) :=
  column_of (N := 16384) (K := 2) 0 (topTwo x) slices_S16384x2_S16384x1_0_0 shapeCasts_S16384x1_S16384 i

theorem second_apply {F : FTy → Type} [FloatOps F] (x : Scores F) (i : Fin 16384) : second x (ix1 i) = topTwo x (ix2 i 1) :=
  column_of (N := 16384) (K := 2) 1 (topTwo x) slices_S16384x2_S16384x1_0_1 shapeCasts_S16384x1_S16384 i

theorem small_toInt (a : Fin 1000) : (BitVec.ofNat 32 a.val).toInt = (a.val : ℤ) := by
  have h := a.isLt
  have hn : (BitVec.ofNat 32 a.val).toNat = a.val := by rw [BitVec.toNat_ofNat]; omega
  rw [BitVec.toInt_eq_toNat_of_lt (by omega), hn]

/-- The two classes of a row: different, the first of largest score, the second of largest score among the others. -/
theorem top_two (x : Scores Ideal) (i : Fin 16384) : ∃ a b : Fin 1000, a ≠ b ∧ (first x (ix1 i)).toInt = (a.val : ℤ)
    ∧ (second x (ix1 i)).toInt = (b.val : ℤ) ∧ (∀ j, (x (ix2 i j) : EReal) ≤ x (ix2 i a))
    ∧ ∀ j, j ≠ a → (x (ix2 i j) : EReal) ≤ x (ix2 i b) := by
  obtain ⟨h1, h2, h3⟩ := two_largest (M := 1000) (by norm_num) (fun j => x (ix2 i j))
    (fun k k' : Fin 1000 => FloatOps.cmpfTotal (F := Ideal) .gt (x (ix2 i k)) (x (ix2 i k')) == 1#1) (fun k k' => by
      rw [beq_iff_eq]
      exact Literals.cmp_ogt)
  refine ⟨_, _, h1, ?_, ?_, h2, h3⟩
  · rw [first_apply]
    unfold topTwo
    rw [topK_index (N := 16384) (M := 1000) (K := 2) _ x sliceFits_S16384x1000_S16384x2 i 0 (by norm_num)]
    exact small_toInt _
  · rw [second_apply]
    unfold topTwo
    rw [topK_index (N := 16384) (M := 1000) (K := 2) _ x sliceFits_S16384x1000_S16384x2 i 1 (by norm_num)]
    exact small_toInt _

end Cert.Ref

end
-- ==== Proof.Row.lean ====
/- One row of scores over the reals: its margin and its loss, and the ways the two programs reach them. -/
module

public import proofs.«01_k».proof.Proof.Parts
public import proofs.«01_k».proof.Proof.Literals
public import Mathlib.Analysis.SpecialFunctions.Log.Basic

@[expose] public section

noncomputable section

namespace Cert.Row

open Idealize.ShloMosaic Cert.Selection
open scoped BigOperators

variable {n : ℕ}

/-- `a` is a class of largest score and `b` one of largest score among the others. -/
def TopTwo (X : Fin n → ℝ) (a b : Fin n) : Prop := b ≠ a ∧ (∀ j, X j ≤ X a) ∧ ∀ j, j ≠ a → X j ≤ X b

/-- The logarithm of the sum of the exponentials. -/
def lse (X : Fin n → ℝ) : ℝ := Real.log (∑ j, Real.exp (X j))

/-- The loss of target `c` when `b` is the second best class. -/
def loss (X : Fin n → ℝ) (c b : Fin n) : ℝ :=
  if 0 ≤ X c - X b then max (1 - (X c - X b)) 0 else max (1 - X c + lse X) 0

theorem loss_nonneg (X : Fin n → ℝ) (c b : Fin n) : 0 ≤ loss X c b := by
  unfold loss
  split <;> exact le_max_right _ _

theorem coe_max' (x y : ℝ) : ((max x y : ℝ) : EReal) = max (x : EReal) y := EReal.coe_strictMono.monotone.map_max

/-- The loss as both programs write it. -/
theorem loss_coe (X : Fin n → ℝ) (c b : Fin n) : ((loss X c b : ℝ) : EReal)
    = if (0 : EReal) ≤ ((X c - X b : ℝ) : EReal) then max (1 - ((X c - X b : ℝ) : EReal)) 0
      else max (1 - ((X c : ℝ) : EReal) + ((lse X : ℝ) : EReal)) 0 := by
  unfold loss
  have h1 : (1 : EReal) = ((1 : ℝ) : EReal) := rfl
  have h0 : (0 : EReal) = ((0 : ℝ) : EReal) := rfl
  by_cases h : 0 ≤ X c - X b
  · rw [if_pos h, if_pos (EReal.coe_nonneg.2 h), coe_max', h1, ← EReal.coe_sub]
    rfl
  · rw [if_neg h, if_neg fun h' => h (EReal.coe_nonneg.1 h'), coe_max', h1, ← EReal.coe_sub, ← EReal.coe_add]
    rfl

/-- The logarithm of the sum of the exponentials, taken directly. -/
theorem log_sum (X : Fin n → ℝ) (a : Fin n) : Ideal.log (∑ j, Ideal.exp (X j : EReal)) = ((lse X : ℝ) : EReal) := by
  have hpos : 0 < ∑ j, Real.exp (X j) := Finset.sum_pos (fun j _ => Real.exp_pos _) ⟨a, Finset.mem_univ _⟩
  have h : (∑ j, Ideal.exp (X j : EReal)) = ((∑ j, Real.exp (X j) : ℝ) : EReal) := by
    rw [coe_sum]
    rfl
  rw [h, Ideal.log_coe, if_neg (not_le.2 hpos)]
  rfl

/-- The same with every score first reduced by one of them, which is added back. -/
theorem log_sum_shift (X : Fin n → ℝ) (a : Fin n) :
    (X a : EReal) + Ideal.log (∑ j, Ideal.exp ((X j : EReal) - (X a : EReal))) = ((lse X : ℝ) : EReal) := by
  have hpos : 0 < ∑ j, Real.exp (X j) := Finset.sum_pos (fun j _ => Real.exp_pos _) ⟨a, Finset.mem_univ _⟩
  have h := log_sum (fun j => X j - X a) a
  simp only [EReal.coe_sub] at h
  rw [h, ← EReal.coe_add]
  refine congrArg (fun r : ℝ => (r : EReal)) ?_
  unfold lse
  have h2 : ∑ j, Real.exp (X j - X a) = (∑ j, Real.exp (X j)) * Real.exp (-X a) := by
    rw [Finset.sum_mul]
    exact Finset.sum_congr rfl fun j _ => by rw [sub_eq_add_neg, Real.exp_add]
  rw [h2, Real.log_mul hpos.ne' (Real.exp_pos _).ne', Real.log_exp]
  ring

/-- The maximum of a row. -/
theorem max_row (X : Fin n → ℝ) (a b : Fin n) (h : TopTwo X a b) :
    (Finset.univ : Finset (Fin n)).fold max ⊥ (fun j => (X j : EReal)) = (X a : EReal) := by
  refine le_antisymm ?_ ?_
  · rw [Finset.fold_max_le]
    exact ⟨bot_le, fun j _ => EReal.coe_le_coe_iff.2 (h.2.1 j)⟩
  · rw [Finset.le_fold_max]
    exact Or.inr ⟨a, Finset.mem_univ _, le_rfl⟩

/-- The entry a one-hot sum picks. -/
theorem pick_row (X : Fin n → ℝ) (c : Fin n) :
    (∑ j : Fin n, if ((j.val : ℝ) : EReal) = ((c.val : ℝ) : EReal) then (X j : EReal) else 0) = (X c : EReal) := by
  have : ∀ j : Fin n, (((j.val : ℝ) : EReal) = ((c.val : ℝ) : EReal)) ↔ j = c := by
    intro j
    rw [EReal.coe_eq_coe_iff, Nat.cast_inj, Fin.ext_iff]
  simp only [this, Finset.sum_ite_eq', Finset.mem_univ, if_true]

/-- More than one score is the largest exactly when the second best equals it. -/
theorem ties (X : Fin n → ℝ) (a b : Fin n) (h : TopTwo X a b) :
    (1 : EReal) < (∑ j : Fin n, if (X j : EReal) = (X a : EReal) then 1 else 0) ↔ X b = X a := by
  have h1 : (∑ j : Fin n, if (X j : EReal) = (X a : EReal) then (1 : EReal) else 0)
      = ((((Finset.univ.filter fun j => X j = X a).card : ℕ) : ℝ) : EReal) := by
    rw [Finset.card_filter]
    push_cast
    rw [coe_sum]
    refine Finset.sum_congr rfl fun j _ => ?_
    by_cases hj : X j = X a
    · rw [if_pos (congrArg _ hj), if_pos hj]; rfl
    · rw [if_neg fun h' => hj (EReal.coe_eq_coe_iff.1 h'), if_neg hj]; rfl
  rw [h1, show (1 : EReal) = ((1 : ℝ) : EReal) from rfl, EReal.coe_lt_coe_iff]
  rw [show (1 : ℝ) = ((1 : ℕ) : ℝ) by norm_num, Nat.cast_lt, Finset.one_lt_card]
  constructor
  · rintro ⟨i, hi, j, hj, hij⟩
    simp only [Finset.mem_filter, Finset.mem_univ, true_and] at hi hj
    refine le_antisymm (h.2.1 b) ?_
    by_cases hia : i = a
    · have hja : j ≠ a := fun e => hij (hia.trans e.symm)
      exact hj ▸ h.2.2 j hja
    · exact hi ▸ h.2.2 i hia
  · intro hb
    exact ⟨b, by simp [hb], a, by simp, h.1⟩

/-- The second best score, as the kernel takes it: the largest when it occurs twice, else the largest of the others. -/
theorem second_row (X : Fin n → ℝ) (a b : Fin n) (h : TopTwo X a b) :
    (if (1 : EReal) < (∑ j : Fin n, if (X j : EReal) = (X a : EReal) then 1 else 0) then (X a : EReal)
      else (Finset.univ : Finset (Fin n)).fold max ⊥ (fun j => if (X j : EReal) = (X a : EReal) then ⊥ else (X j : EReal)))
      = (X b : EReal) := by
  by_cases hb : X b = X a
  · rw [if_pos ((ties X a b h).2 hb), hb]
  · rw [if_neg fun h' => hb ((ties X a b h).1 h')]
    refine le_antisymm ?_ ?_
    · rw [Finset.fold_max_le]
      refine ⟨bot_le, fun j _ => ?_⟩
      split
      · exact bot_le
      · next hj =>
        exact EReal.coe_le_coe_iff.2 (h.2.2 j fun e => hj (by rw [e]))
    · rw [Finset.le_fold_max]
      refine Or.inr ⟨b, Finset.mem_univ _, ?_⟩
      rw [if_neg fun e => hb (EReal.coe_eq_coe_iff.1 e)]

end Cert.Row

end
-- ==== Proof.RefRow.lean ====
/- The reference's margin and loss of one example, for real scores and a target in range. -/
module

public import proofs.«01_k».proof.Proof.RefGather
public import proofs.«01_k».proof.Proof.RefTopTwo
public import proofs.«01_k».proof.Proof.Row

@[expose] public section

set_option maxRecDepth 16384

noncomputable section

namespace Cert.Ref

open Cert.ReferenceIdeal Cert.ReferenceIdeal.Gen Idealize.ShloMosaic ValueIdx Routing Cert.Row
open Cert.KernelIdeal.Hand (ofBits_at')
open scoped BigOperators

section
variable {F : FTy → Type} [FloatOps F]

theorem margin_gen (x : Scores F) (t : Idx) (j : S16384.Idx) : margin x t j
    = if FloatOps.cmpf .ogt (FloatOps.subf (scoreAt x t j) (scoreAt x (first x) j)) (FloatOps.ofBits .f32 0x00000000#32) = 1#1
      then FloatOps.subf (scoreAt x t j) (scoreAt x (first x) j) else FloatOps.subf (scoreAt x t j) (scoreAt x (second x) j) := by
  unfold margin
  rw [Cert.KernelIdeal.Hand.select_apply]
  rfl

theorem loss_gen (x : Scores F) (t : Idx) (b : Col F) (j : S16384.Idx) : loss x t b j
    = if FloatOps.cmpf .oge (b j) (FloatOps.ofBits .f32 0x00000000#32) = 1#1
      then FloatOps.maximumf (FloatOps.subf (FloatOps.ofBits .f32 0x3F800000#32) (b j)) (FloatOps.ofBits .f32 0x00000000#32)
      else FloatOps.maximumf (FloatOps.addf (FloatOps.subf (FloatOps.ofBits .f32 0x3F800000#32) (scoreAt x t j)) (lse x j))
        (FloatOps.ofBits .f32 0x00000000#32) := by
  unfold loss
  rw [Cert.KernelIdeal.Hand.select_apply]
  rfl

theorem lse_gen (x : Scores F) (j : S16384.Idx) : lse x j
    = FloatOps.hostUnary .log (Host.reduceAdd (Host.exp x) (constant S_ .f32 0x00000000#32) reducesTo_S16384x1000_S16384_d1 h_S_ j) :=
  rfl

theorem exp_gen (x : Scores F) (j : S16384x1000.Idx) : Host.exp x j = FloatOps.hostUnary .exp (x j) := rfl
end

theorem host_log (z : EReal) : FloatOps.hostUnary (F := Ideal) (φ := .f32) .log z = Ideal.log z := rfl

theorem host_exp (z : EReal) : FloatOps.hostUnary (F := Ideal) (φ := .f32) .exp z = Ideal.exp z := rfl

theorem rows_reduce : S16384x1000.Reduces [1] S16384 := by decide

theorem lift_row (i : Fin 16384) (k : Fin (S16384x1000.size 1)) : rows_reduce.lift (ix1 i) k = ix2 i (k : Fin 1000) := by
  funext a
  match a with
  | ⟨0, _⟩ => rfl
  | ⟨1, _⟩ => rfl

/-- A sum from zero over each row. -/
theorem row_sum (v : Scores Ideal) (z : FVec Ideal S_ .f32) (hz : ∀ j, z j = (0 : EReal)) (i : Fin 16384) :
    Host.reduceAdd v z reducesTo_S16384x1000_S16384_d1 h_S_ (ix1 i) = ∑ k : Fin 1000, (v (ix2 i k) : EReal) := by
  have h1 : Host.reduceAdd v z reducesTo_S16384x1000_S16384_d1 h_S_ (ix1 i) = _ :=
    Ideal.hostReduceAdd_single reducesTo_S16384x1000_S16384_d1 rows_reduce v (z (Shape.Idx.first h_S_)) (ix1 i)
  rw [h1, hz, zero_add]
  exact Finset.sum_congr rfl fun k _ => congrArg v (lift_row i k)

variable {x : Scores Ideal} {t : Idx} {i : Fin 16384} {X : Fin 1000 → ℝ} {a b c : Fin 1000}

theorem lse_value (hx : ∀ j, x (ix2 i j) = (X j : EReal)) (a : Fin 1000) : lse x (ix1 i) = ((Row.lse X : ℝ) : EReal) := by
  rw [← log_sum X a, lse_gen, row_sum (Host.exp x) _ zero_const i, host_log]
  refine congrArg Ideal.log (Finset.sum_congr rfl fun k _ => ?_)
  rw [exp_gen, hx, host_exp]

theorem ref_margin (hx : ∀ j, x (ix2 i j) = (X j : EReal)) (ht : (t (ix1 i)).toInt = (c.val : ℤ)) (h : TopTwo X a b)
    (ha : (first x (ix1 i)).toInt = (a.val : ℤ)) (hb : (second x (ix1 i)).toInt = (b.val : ℤ)) :
    margin x t (ix1 i) = ((X c - X b : ℝ) : EReal) := by
  rw [margin_gen, scoreAt_apply x t i c ht, scoreAt_apply x (first x) i a ha, scoreAt_apply x (second x) i b hb, hx, hx, hx,
    ofBits_at', Ideal.ofBits_zero_f32, EReal.coe_sub]
  have h1 : ¬ (FloatOps.cmpf (F := Ideal) (φ := .f32) .ogt (FloatOps.subf (F := Ideal) (φ := .f32) (X c : EReal) (X a : EReal)) (0 : EReal) = 1#1) := by
    refine fun hc => absurd (Literals.cmp_ogt.1 hc) (not_lt.2 ?_)
    show (X c : EReal) - (X a : EReal) ≤ 0
    rw [← EReal.coe_sub, ← EReal.coe_zero, EReal.coe_le_coe_iff]
    linarith [h.2.1 c]
  exact (if_neg h1)

theorem ref_loss (hx : ∀ j, x (ix2 i j) = (X j : EReal)) (ht : (t (ix1 i)).toInt = (c.val : ℤ)) (h : TopTwo X a b)
    (ha : (first x (ix1 i)).toInt = (a.val : ℤ)) (hb : (second x (ix1 i)).toInt = (b.val : ℤ)) :
    loss x t (margin x t) (ix1 i) = ((Row.loss X c b : ℝ) : EReal) := by
  rw [loss_gen, ref_margin hx ht h ha hb, lse_value hx a, scoreAt_apply x t i c ht, hx, ofBits_at', ofBits_at',
    Ideal.ofBits_zero_f32, Literals.one, loss_coe]
  exact if_congr Literals.cmp_oge rfl rfl

/-- Every row has a second best class that gives the reference's margin and loss. -/
theorem ref_row (hx : ∀ j, x (ix2 i j) = (X j : EReal)) (ht : (t (ix1 i)).toInt = (c.val : ℤ)) :
    ∃ a b : Fin 1000, TopTwo X a b ∧ margin x t (ix1 i) = ((X c - X b : ℝ) : EReal)
      ∧ loss x t (margin x t) (ix1 i) = ((Row.loss X c b : ℝ) : EReal) := by
  obtain ⟨a, b, hne, ha, hb, h1, h2⟩ := top_two x i
  have h : TopTwo X a b := by
    refine ⟨hne.symm, fun j => ?_, fun j hj => ?_⟩
    · have := h1 j
      rw [hx, hx] at this
      exact EReal.coe_le_coe_iff.1 this
    · have := h2 j hj
      rw [hx, hx] at this
      exact EReal.coe_le_coe_iff.1 this
  exact ⟨a, b, h, ref_margin hx ht h ha hb, ref_loss hx ht h ha hb⟩

end Cert.Ref

end
-- ==== Proof.PreValue.lean ====
/- What the precondition says of the scores and the targets. -/
module

public import proofs.«01_k».proof.Proof.PreFuns
public import proofs.«01_k».proof.Proof.RefCut

@[expose] public section

set_option maxRecDepth 16384

noncomputable section

namespace Cert.Ref

open Cert.ReferenceIdeal Cert.ReferenceIdeal.Gen Idealize.ShloMosaic ValueIdx Routing

section
variable {F : FTy → Type} [FloatOps F]

theorem finite_gen (x : Scores F) (j : S_.Idx) (h : finite x j = 1#1) (i : S16384x1000.Idx) :
    FloatOps.cmpf .olt (FloatOps.hostAbsf (x i)) (FloatOps.ofBits .f32 0x7F800000#32) = 1#1 :=
  Host.reduce_andi_all _ _ _ _ j h i

theorem inRange_gen (t : Idx) (j : S_.Idx) (h : inRange t j = 1#1) (i : S16384.Idx) :
    IntOp.andi (IntOp.cmpi .sge (t i) 0#32) (IntOp.cmpi .slt (t i) 1000#32) = 1#1 :=
  Host.reduce_andi_all _ _ _ _ j h i

theorem pre_gen (x : Scores F) (t : Idx) (j : S_.Idx) (h : Cert.Pre_clear_cut.fn x t j = 1#1) :
    finite x j = 1#1 ∧ inRange t j = 1#1 ∧ clear (ordered x t) (mask (ordered x t) (thresh (margin x t))) j = 1#1 := by
  rw [Cert.Ref.pre_eq] at h
  have h1 := IntOp.andi_eq_one.1 h
  have h2 := IntOp.andi_eq_one.1 h1.1
  exact ⟨h2.1, h2.2, h1.2⟩
end

/-- The scores are real numbers. -/
theorem finite_real {x : Scores Ideal} {j : S_.Idx} (h : finite x j = 1#1) (i : S16384x1000.Idx) :
    ∃ r : ℝ, x i = (r : EReal) := by
  have h1 := finite_gen x j h i
  rw [Cert.KernelIdeal.Hand.ofBits_at', Literals.inf] at h1
  have h2 : max (x i : EReal) (-(x i : EReal)) < ⊤ := Literals.cmp_olt.1 h1
  induction hx : (x i : EReal) using EReal.rec with
  | bot => rw [hx] at h2; simp at h2
  | coe r => exact ⟨r, rfl⟩
  | top => rw [hx] at h2; simp at h2

/-- The targets are classes. -/
theorem inRange_class {t : Idx} {j : S_.Idx} (h : inRange t j = 1#1) (i : S16384.Idx) :
    ∃ c : Fin 1000, (t i).toInt = (c.val : ℤ) := by
  have h1 := IntOp.andi_eq_one.1 (inRange_gen t j h i)
  have h2 : (0 : ℤ) ≤ (t i).toInt := IntOp.cmpi_sge.1 h1.1
  have h3 : (t i).toInt < 1000 := IntOp.cmpi_slt.1 h1.2
  exact ⟨⟨(t i).toInt.toNat, by omega⟩, by simp [h2]⟩

end Cert.Ref

end
-- ==== Proof.KernelRow.lean ====
/- One block's losses and margins over the extended reals, for real scores and targets in range. -/
module

public import proofs.«01_k».proof.Proof.FinalRead
public import proofs.«01_k».proof.Proof.Row
public import Idealize.ShloMosaic.Lib.Pipeline.Value

@[expose] public section

set_option maxRecDepth 16384

noncomputable section

namespace Cert.KernelIdeal.Hand

open Cert.KernelIdeal.Gen Cert.Row
open Idealize.ShloMosaic ValueIdx
open scoped BigOperators

/-- The sum of a column of a block. -/
def colSum {F : FTy → Type} [FloatOps F] (v : FVec F S1000x2048 .f32) : FVec F S1x2048 .f32 :=
  shapeCast S1x2048 (multiReduction .add [0] S2048 v 0x00000000#32 reduces_S1000x2048_S2048 (.inl rfl) rfl) shapeCasts_S2048_S1x2048

/-- The maximum of a column of a block. -/
def colMax {F : FTy → Type} [FloatOps F] (v : FVec F S1000x2048 .f32) : FVec F S1x2048 .f32 :=
  shapeCast S1x2048 (multiReduction .maximumf [0] S2048 v 0xFF800000#32 reduces_S1000x2048_S2048 (.inl rfl) rfl) shapeCasts_S2048_S1x2048

theorem flat_row {α : Type} (v : S2048.Idx → α) (l : Fin 2048) : shapeCast S1x2048 v shapeCasts_S2048_S1x2048 (ix2 0 l) = v (ix1 l) :=
  shapeCast_apply v shapeCasts_S2048_S1x2048 (ix2 0 l) (ix1 l)
    (by rw [Shape.rowMajor_val_one, Shape.rowMajor_val_two]; show l.val = 0 * 2048 + l.val; omega)

theorem lift_col (l : Fin 2048) (k : Fin (S1000x2048.size 0)) :
    (reduces_S1000x2048_S2048 : S1000x2048.Reduces [0] S2048).lift (ix1 l) k = ix2 (k : Fin 1000) l := by
  funext a
  match a with
  | ⟨0, _⟩ => rfl
  | ⟨1, _⟩ => rfl

theorem colSum_eq (v : FVec Ideal S1000x2048 .f32) (l : Fin 2048) : colSum v (ix2 0 l) = ∑ k : Fin 1000, (v (ix2 k l) : EReal) := by
  unfold colSum
  rw [flat_row]
  refine (Ideal.multiReduction_add_single v 0x00000000#32 reduces_S1000x2048_S2048 (.inl rfl) rfl (ix1 l)).trans ?_
  exact Finset.sum_congr rfl fun k _ => congrArg v (lift_col l k)

theorem colMax_gen (v : FVec Ideal S1000x2048 .f32) (acc : BitVec 32) (hacc : acc = FKind.maximumf.neutral .f32 (.inl rfl)) (l : Fin 2048) :
    multiReduction .maximumf [0] S2048 v acc reduces_S1000x2048_S2048 (.inl rfl) hacc (ix1 l)
      = (Finset.univ : Finset (Fin 1000)).fold max (Ideal.ofBits .f32 acc) (fun k => (v (ix2 k l) : EReal)) := by
  refine (Ideal.multiReduction_maximumf_single v acc reduces_S1000x2048_S2048 (.inl rfl) hacc (ix1 l)).trans ?_
  exact congrArg (fun f : Fin 1000 → EReal => (Finset.univ : Finset (Fin 1000)).fold max (Ideal.ofBits .f32 acc) f)
    (funext fun k => congrArg v (lift_col l k))

theorem colMax_eq (v : FVec Ideal S1000x2048 .f32) (l : Fin 2048) : colMax v (ix2 0 l)
    = (Finset.univ : Finset (Fin 1000)).fold max ⊥ (fun k => (v (ix2 k l) : EReal)) := by
  unfold colMax
  rw [flat_row]
  refine (colMax_gen v 0xFF800000#32 rfl l).trans ?_
  rw [Literals.neg_inf]

section
variable {F : FTy → Type} [FloatOps F]

/-- A row repeated down the block. -/
def down (r : FVec F S1x2048 .f32) : FVec F S1000x2048 .f32 := broadcastTo S1000x2048 r broadcasts_S1x2048_S1000x2048

theorem down_apply (r : FVec F S1x2048 .f32) (k : Fin 1000) (l : Fin 2048) : down r (ix2 k l) = r (ix2 0 l) := by
  refine congrArg r (funext fun a => ?_)
  match a with
  | ⟨0, _⟩ => rfl
  | ⟨1, _⟩ => rfl

theorem pay17_gen (x : Vec F S1000x2048 .f32) : k0_pay17 x = colMax x := by
  unfold k0_pay17 k0_pay16
  rw [shapeCast_self]
  rfl

/-- The block with all but the target classes' scores cleared. -/
def hot (x : Vec F S1000x2048 .f32) (y : Vec F S1x2048 .f32) : FVec F S1000x2048 .f32 :=
  select (cmpf .oeq (sitofp .f32 (iota .tc S1000x2048 32 [0] iota_S1000x2048_d0_w32)) (down y)) x
    (broadcast S1000x2048 (Scalar.ofBits .f32 0x00000000#32))

theorem hot_apply (x : Vec F S1000x2048 .f32) (y : Vec F S1x2048 .f32) (k : Fin 1000) (l : Fin 2048) : hot x y (ix2 k l)
    = if FloatOps.cmpf .oeq (FloatOps.sitofp .f32 (BitVec.ofNat 32 k.val)) (y (ix2 0 l)) = 1#1 then x (ix2 k l) else FloatOps.ofBits .f32 0x00000000#32 := by
  have hi : iota .tc S1000x2048 32 [0] iota_S1000x2048_d0_w32 (ix2 k l) = BitVec.ofNat 32 k.val :=
    iota_single_apply .tc S1000x2048 32 0 iota_S1000x2048_d0_w32 (ix2 k l)
  unfold hot
  rw [Cert.KernelIdeal.Hand.select_apply, ← down_apply y k l, ← hi]
  rfl

theorem pay18_gen (x : Vec F S1000x2048 .f32) (y : Vec F S1x2048 .f32) : k0_pay18 x y = colSum (hot x y) := by
  unfold k0_pay18 k0_pay16
  rw [shapeCast_self, shapeCast_self]
  rfl

/-- Which scores are the largest of their column. -/
def isMax (x : Vec F S1000x2048 .f32) : IVec S1000x2048 1 := cmpf .oeq x (down (colMax x))

theorem isMax_apply (x : Vec F S1000x2048 .f32) (k : Fin 1000) (l : Fin 2048) : isMax x (ix2 k l)
    = FloatOps.cmpf .oeq (x (ix2 k l)) (colMax x (ix2 0 l)) := by
  rw [← down_apply (colMax x) k l]
  rfl

/-- How many scores are the largest of their column. -/
def tally (x : Vec F S1000x2048 .f32) : FVec F S1x2048 .f32 := colSum (sitofp .f32 (extui 32 (isMax x) natLt_1_32))

/-- The largest of the other scores. -/
def rest (x : Vec F S1000x2048 .f32) : FVec F S1x2048 .f32 :=
  colMax (select (isMax x) (broadcast S1000x2048 (Scalar.ofBits .f32 0xFF800000#32)) x)

theorem pay19_gen (x : Vec F S1000x2048 .f32) (y : Vec F S1x2048 .f32) : k0_pay19 x y
    = subf (colSum (hot x y)) (select (cmpf .ogt (tally x) (broadcast S1x2048 (Scalar.ofBits .f32 0x3F800000#32))) (colMax x) (rest x)) := by
  unfold k0_pay19
  rw [pay17_gen, pay18_gen]
  unfold k0_pay16
  rw [shapeCast_self]
  rfl

/-- The sum of the exponentials of the scores less the largest. -/
def expSum (x : Vec F S1000x2048 .f32) : FVec F S1x2048 .f32 := colSum (exp (subf x (down (colMax x))))

theorem pay21_gen (x : Vec F S1000x2048 .f32) (y : Vec F S1x2048 .f32) : k0_pay21 x y
    = addf (subf (broadcast S1x2048 (Scalar.ofBits .f32 0x3F800000#32)) (colSum (hot x y))) (addf (colMax x) (log (expSum x))) := by
  unfold k0_pay21
  rw [pay17_gen, pay18_gen]
  unfold k0_pay16
  rw [shapeCast_self]
  rfl

theorem margin_gen (x : Vec F S1000x2048 .f32) (y : Vec F S1x2048 .f32) : marginRow x y = k0_pay19 x y := by
  unfold marginRow k0_pay2
  rw [shapeCast_self]

theorem loss_gen (x : Vec F S1000x2048 .f32) (y : Vec F S1x2048 .f32) (j : S1x2048.Idx) : lossRow x y j
    = if FloatOps.cmpf .oge (k0_pay19 x y j) (FloatOps.ofBits .f32 0x00000000#32) = 1#1
      then FloatOps.maximumf (FloatOps.subf (FloatOps.ofBits .f32 0x3F800000#32) (k0_pay19 x y j)) (FloatOps.ofBits .f32 0x00000000#32)
      else FloatOps.maximumf (k0_pay21 x y j) (FloatOps.ofBits .f32 0x00000000#32) := by
  unfold lossRow k0_pay1
  rw [shapeCast_self]
  unfold k0_pay20 k0_pay22
  rw [Cert.KernelIdeal.Hand.select_apply]
  rfl
end

variable {x : Vec Ideal S1000x2048 .f32} {y : Vec Ideal S1x2048 .f32} {l : Fin 2048} {X : Fin 1000 → ℝ} {a b c : Fin 1000}

theorem class_toInt (k : Fin 1000) : (BitVec.ofNat 32 k.val).toInt = (k.val : ℤ) := by
  have h := k.isLt
  have hn : (BitVec.ofNat 32 k.val).toNat = k.val := by rw [BitVec.toNat_ofNat]; omega
  rw [BitVec.toInt_eq_toNat_of_lt (by omega), hn]

theorem class_float (k : Fin 1000) : (FloatOps.sitofp (F := Ideal) .f32 (BitVec.ofNat 32 k.val) : EReal) = ((k.val : ℝ) : EReal) := by
  show (((BitVec.ofNat 32 k.val).toInt : ℝ) : EReal) = _
  rw [class_toInt]
  norm_cast

/-- The target's score. -/
theorem pick_eq (hx : ∀ j, x (ix2 j l) = (X j : EReal)) (hy : y (ix2 0 l) = ((c.val : ℝ) : EReal)) :
    colSum (hot x y) (ix2 0 l) = (X c : EReal) := by
  rw [colSum_eq, ← pick_row X c]
  refine Finset.sum_congr rfl fun k _ => ?_
  rw [hot_apply, hx, hy, class_float, ofBits_at', Ideal.ofBits_zero_f32]
  exact if_congr Literals.cmp_oeq rfl rfl

/-- The largest score. -/
theorem top_eq (hx : ∀ j, x (ix2 j l) = (X j : EReal)) (h : TopTwo X a b) : colMax (F := Ideal) x (ix2 0 l) = (X a : EReal) := by
  rw [colMax_eq, ← max_row X a b h]
  exact congrArg (fun f : Fin 1000 → EReal => (Finset.univ : Finset (Fin 1000)).fold max ⊥ f) (funext hx)

theorem isMax_iff (hx : ∀ j, x (ix2 j l) = (X j : EReal)) (h : TopTwo X a b) (k : Fin 1000) :
    isMax x (ix2 k l) = 1#1 ↔ (X k : EReal) = (X a : EReal) := by
  rw [isMax_apply, top_eq hx h, hx]
  exact Literals.cmp_oeq

theorem tally_eq (hx : ∀ j, x (ix2 j l) = (X j : EReal)) (h : TopTwo X a b) :
    tally x (ix2 0 l) = ∑ j : Fin 1000, if (X j : EReal) = (X a : EReal) then (1 : EReal) else 0 := by
  unfold tally
  rw [colSum_eq]
  refine Finset.sum_congr rfl fun k _ => ?_
  refine (Literals.bit_signed _).trans ?_
  exact if_congr (isMax_iff hx h k) rfl rfl

theorem rest_eq (hx : ∀ j, x (ix2 j l) = (X j : EReal)) (h : TopTwo X a b) :
    rest x (ix2 0 l) = (Finset.univ : Finset (Fin 1000)).fold max ⊥ (fun j => if (X j : EReal) = (X a : EReal) then ⊥ else (X j : EReal)) := by
  unfold rest
  rw [colMax_eq]
  refine congrArg (fun f : Fin 1000 → EReal => (Finset.univ : Finset (Fin 1000)).fold max ⊥ f) (funext fun k => ?_)
  rw [Cert.KernelIdeal.Hand.select_apply, hx]
  refine if_congr (isMax_iff hx h k) ?_ rfl
  exact Literals.neg_inf

theorem select_gt (u v m r : FVec Ideal S1x2048 .f32) (j : S1x2048.Idx) : select (cmpf .ogt u v) m r j
    = if (v j : EReal) < u j then m j else r j := by
  rw [Cert.KernelIdeal.Hand.select_apply]
  exact if_congr Literals.cmp_ogt rfl rfl

theorem one_row (j : S1x2048.Idx) : (broadcast S1x2048 (Scalar.ofBits (F := Ideal) .f32 0x3F800000#32) : FVec Ideal S1x2048 .f32) j = (1 : EReal) :=
  Literals.one

/-- The margin. -/
theorem margin_value (hx : ∀ j, x (ix2 j l) = (X j : EReal)) (hy : y (ix2 0 l) = ((c.val : ℝ) : EReal)) (h : TopTwo X a b) :
    k0_pay19 x y (ix2 0 l) = ((X c - X b : ℝ) : EReal) := by
  rw [pay19_gen, EReal.coe_sub]
  refine (congrArg₂ (fun p q : EReal => p - q) (pick_eq hx hy) ?_)
  rw [select_gt, one_row, tally_eq hx h, top_eq hx h, rest_eq hx h]
  exact second_row X a b h

theorem expSum_eq (hx : ∀ j, x (ix2 j l) = (X j : EReal)) (h : TopTwo X a b) :
    expSum x (ix2 0 l) = ∑ j : Fin 1000, Ideal.exp ((X j : EReal) - (X a : EReal)) := by
  unfold expSum
  rw [colSum_eq]
  refine Finset.sum_congr rfl fun k _ => ?_
  refine congrArg₂ (fun p q : EReal => Ideal.exp (p - q)) (hx k) ?_
  rw [down_apply]
  exact top_eq hx h

/-- The other branch's value. -/
theorem entropy_value (hx : ∀ j, x (ix2 j l) = (X j : EReal)) (hy : y (ix2 0 l) = ((c.val : ℝ) : EReal)) (h : TopTwo X a b) :
    k0_pay21 x y (ix2 0 l) = (1 : EReal) - (X c : EReal) + ((lse X : ℝ) : EReal) := by
  rw [pay21_gen, ← log_sum_shift X a, ← expSum_eq hx h, ← top_eq hx h, ← pick_eq hx hy]
  exact congrArg (fun p : EReal => p - colSum (hot x y) (ix2 0 l) + (colMax (F := Ideal) x (ix2 0 l) + Ideal.log (expSum x (ix2 0 l)))) Literals.one

/-- The loss. -/
theorem loss_value (hx : ∀ j, x (ix2 j l) = (X j : EReal)) (hy : y (ix2 0 l) = ((c.val : ℝ) : EReal)) (h : TopTwo X a b) :
    lossRow x y (ix2 0 l) = ((Row.loss X c b : ℝ) : EReal) := by
  rw [loss_gen, margin_value hx hy h, entropy_value hx hy h, ofBits_at', ofBits_at', Ideal.ofBits_zero_f32, Literals.one, loss_coe]
  exact if_congr Literals.cmp_oge rfl rfl

end Cert.KernelIdeal.Hand

end
-- ==== Proof.Algebraic.lean ====
/- Under the precondition the kernel's run and the reference's end in one result. -/
module

public import proofs.«01_k».proof.Proof.Match
public import proofs.«01_k».proof.Proof.RefRow
public import proofs.«01_k».proof.Proof.PreValue
public import proofs.«01_k».proof.Proof.KernelRow

@[expose] public section

set_option maxRecDepth 16384

noncomputable section

namespace Cert.Match

open Cert.KernelIdeal.Hand Cert.KernelIdeal Cert.KernelIdeal.Gen Idealize.ShloMosaic Idealize.ShloMosaic.TcCoe ValueIdx Routing Cert.Row
open Idealize.SL.Sem

variable (m : (ℓ : Loc nD τ sig) → Buf (Elt Ideal) ℓ)

/-- The scores on a device. -/
abbrev scores (c : Dev nD) : Cert.Ref.Scores Ideal := m ((c : Thread nD τ).loc main_arg0)

/-- The targets on a device. -/
abbrev targets (c : Dev nD) : Cert.Ref.Idx := m ((c : Thread nD τ).loc main_arg1)

variable {m} {c : Dev nD} {X : Fin 16384 → Fin 1000 → ℝ} {k a b : Fin 16384 → Fin 1000}

/-- The kernel's loss and margin of an example, from its row of scores and its class. -/
theorem kernel_rows (hx : ∀ i j, scores m c (ix2 i j) = (X i j : EReal))
    (ht : ∀ i, (targets m c (ix1 i)).toInt = ((k i).val : ℤ)) (h : ∀ i, TopTwo (X i) (a i) (b i)) (y : Pos) :
    lossAll m c y = ((Row.loss (X (pos y)) (k (pos y)) (b (pos y)) : ℝ) : EReal)
      ∧ marginAll m c y = ((X (pos y) (k (pos y)) - X (pos y) (b (pos y)) : ℝ) : EReal) := by
  have hx' : ∀ j : Fin 1000, iblk m c 0 (pt (y 0)) (ix2 j (y 1 : Fin 2048)) = (X (pos y) j : EReal) := fun j =>
    (block0 m c (y 0) j (y 1)).trans (hx _ _)
  have hy' : iblk m c 1 (pt (y 0)) (ix2 0 (y 1 : Fin 2048)) = (((k (pos y)).val : ℝ) : EReal) := by
    refine (block1 m c (y 0) (y 1)).trans ?_
    show (((targets m c (ix1 (pos y))).toInt : ℝ) : EReal) = _
    rw [ht]
    norm_cast
  refine ⟨loss_value hx' hy' (h _), ?_⟩
  unfold marginAll
  rw [margin_gen]
  exact margin_value hx' hy' (h _)

/-- Under the precondition both programs' results agree. -/
theorem device_eq {j0 : Cert.ReferenceIdeal.S_.Idx}
    (hp : Cert.Pre_clear_cut.fn (F := Ideal) (scores m c) (targets m c) j0 = 1#1) (j : S1x1.Idx) (j' : Cert.ReferenceIdeal.S_.Idx) :
    finalOut (lossAll m c) (marginAll m c) j
      = Cert.Ref.out (Cert.Ref.ordered (scores m c) (targets m c)) (Cert.Ref.thresh (Cert.Ref.margin (scores m c) (targets m c))) j' := by
  obtain ⟨h1, h2, h3⟩ := Cert.Ref.pre_gen _ _ _ hp
  choose X hx using fun (i : Fin 16384) (j : Fin 1000) => Cert.Ref.finite_real h1 (ix2 i j)
  choose k ht using fun i : Fin 16384 => Cert.Ref.inRange_class h2 (ix1 i)
  choose a b h hm hl using fun i => Cert.Ref.ref_row (hx i) (ht i)
  exact result_eq (r := fun i => Row.loss (X i) (k i) (b i)) (q := fun i => X i (k i) - X i (b i))
    (fun y => (kernel_rows hx ht h y).1) (fun y => (kernel_rows hx ht h y).2) hl hm
    (fun i => Row.loss_nonneg _ _ _) h3 j j'

/-- The reference's result is the kernel's, from memories that agree on the arguments. -/
theorem value_eq (hp : ∀ j0, Cert.Pre_clear_cut.fn (F := Ideal) (scores m c) (targets m c) j0 = 1#1)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = scores m c)
    (h1 : m' ((c.tc : Thread Cert.ReferenceIdeal.nD Cert.ReferenceIdeal.τ).loc Cert.ReferenceIdeal.main_arg1) = targets m c) :
    Cert.ReferenceIdeal.Value.res_main_v87 m' c
      = (shapeCast S_ (finalOut (F := Ideal) (lossAll m c) (marginAll m c)) shapeCasts_S1x1_S_ : Vec Ideal S_ .f32) := by
  rw [Cert.Ref.res_eq, h0, h1]
  funext j
  exact (device_eq (hp j) _ j).symm

end Cert.Match

end
-- ==== Proof.lean ====
/- The claims: the kernel's frame as it is lowered and at the ideal instance, the reference's frame, the idealization, and the
   equality of both results under the precondition. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.SameProgram
public import proofs.«01_k».proof.Proof.Algebraic
public import Idealize.ShloMosaic.Adequacy
public import Idealize.ShloMosaic.Init

@[expose] public section

noncomputable section

namespace Cert.Proof

open Idealize.ShloMosaic Idealize.SL.Sem

/-- The reference runs, leaves its arguments, and declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => ⟨(h c).2.1, (h c).2.2⟩, sem_eq_zero_of_no_sems (by decide) r.2⟩)
    (Cert.ReferenceIdeal.Value.run m g)

/-- Under the precondition the kernel and the reference, both at the ideal instance, end in one result. -/
theorem algebraic : Cert.algebraic_KernelIdeal_ReferenceIdeal_pre_clear_cut
    (hKernelIdeal := Cert.KernelIdeal.Gen.facts) (hReferenceIdeal := Cert.ReferenceIdeal.Gen.facts)
    (hPre_clear_cut := Cert.Ref.preFacts) := by
  intro m g m' g' hp hagree
  refine ⟨_, Cert.KernelIdeal.Hand.run_value m g, ?_⟩
  refine (θ_run Cert.ReferenceIdeal.defs _ _).mono (fun r h c => ⟨(h c).1.trans ?_, (h c).2⟩)
    (Cert.ReferenceIdeal.Value.run m' g')
  exact Cert.Match.value_eq (fun j => congrFun (hp c) j) m' (hagree c).1 (hagree c).2

theorem claim : Cert.Claim :=
  ⟨Cert.Kernel.Gen.facts, Cert.KernelIdeal.Gen.facts, Cert.ReferenceIdeal.Gen.facts, Cert.Ref.preFacts,
    fun m g _ => Cert.SameProgram.frame_kernel m g, fun m g _ => Cert.KernelIdeal.Hand.frame_ideal m g,
    fun m g _ => Cert.KernelIdeal.Hand.frame_ideal m g, fun m g _ => frame_reference m g, fun m g _ => frame_reference m g,
    trivial, algebraic⟩

end Cert.Proof

end
